-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S_ : Shape := ⟨0, ![]⟩

class Facts : Prop where
  bcast_S_S32x1024 : S_.BroadcastsInDim S32x1024 (![] : Fin 0 → Fin S32x1024.rank)
  bcast_S_S32x2048x1024 : S_.BroadcastsInDim S32x2048x1024 (![] : Fin 0 → Fin S32x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1024x1024 .f32) (main_arg8 : FVec F S1024 .f32) (main_arg9 : FVec F S1024x1024 .f32) (main_arg10 : FVec F S1024 .f32) (main_v2 : IVec S32x1024 1) (main_v5 : IVec S32x2048x1024 1) (main_v8 : IVec S32x2048x1024 1) (main_v11 : IVec S1024x1024 1) (main_v14 : IVec S1024 1) (main_v17 : IVec S1024x1024 1) : IVec S32x1024 1 × IVec S32x2048x1024 1 × IVec S32x2048x1024 1 × IVec S1024x1024 1 × IVec S1024 1 × IVec S1024x1024 1 × IVec S1024 1 × IVec S1024x1024 1 × IVec S1024 1 × IVec S1024x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1024 .f32 := Host.absf main_arg10
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  (main_v2, main_v5, main_v8, main_v11, main_v14, main_v17, main_v20, main_v23, main_v26, main_v29, main_v32)

def fn {F : FTy → Type} [FloatOps F] (main_arg0 : FVec F S32x1024 .f32) (main_arg1 : FVec F S32x2048x1024 .f32) (main_arg2 : FVec F S32x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S32x1024 1 × IVec S32x2048x1024 1 × IVec S32x2048x1024 1 × IVec S1024x1024 1 × IVec S1024 1 × IVec S1024x1024 1 × IVec S1024 1 × IVec S1024x1024 1 × IVec S1024 1 × IVec S1024x1024 1 × IVec S1024 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S32x2048x1024 .f32 := Host.absf main_arg1
  let main_cst_0 : FVec F S_ .f32 := constant S_ .f32 0x7F800000#32
  let main_v4 : FVec F S32x2048x1024 .f32 := broadcastInDim S32x2048x1024 ![] bcast_S_S32x2048x1024 main_cst_0
  let main_v5 : IVec S32x2048x1024 1 := cmpf .olt main_v3 main_v4
  let main_v6 : FVec F S32x2048x1024 .f32 := Host.absf main_arg2
  let main_cst_1 : FVec F S_ .f32 := constant S_ .f32 0x7F800000#32
  let main_v7 : FVec F S32x2048x1024 .f32 := broadcastInDim S32x2048x1024 ![] bcast_S_S32x2048x1024 main_cst_1
  let main_v8 : IVec S32x2048x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_arg9 main_arg10 main_v2 main_v5 main_v8 main_v11 main_v14 main_v17
-- ==== Kernel.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S32x16x1024 : Shape := ⟨3, ![32, 16, 1024]⟩
abbrev S32x1x16 : Shape := ⟨3, ![32, 1, 16]⟩
abbrev S1x128 : Shape := ⟨2, ![1, 128]⟩
abbrev S32x128 : Shape := ⟨2, ![32, 128]⟩
abbrev S1024x128 : Shape := ⟨2, ![1024, 128]⟩
abbrev S32x1x1024 : Shape := ⟨3, ![32, 1, 1024]⟩
abbrev S1x16x1024 : Shape := ⟨3, ![1, 16, 1024]⟩
abbrev S16x1024 : Shape := ⟨2, ![16, 1024]⟩
abbrev S512x1024 : Shape := ⟨2, ![512, 1024]⟩
abbrev S512x16 : Shape := ⟨2, ![512, 16]⟩
abbrev S16 : Shape := ⟨1, ![16]⟩
abbrev S1x16 : Shape := ⟨2, ![1, 16]⟩
abbrev S1x1x16 : Shape := ⟨3, ![1, 1, 16]⟩
abbrev S4x1x16 : Shape := ⟨3, ![4, 1, 16]⟩
abbrev S32x1x1 : Shape := ⟨3, ![32, 1, 1]⟩
abbrev S32x1 : Shape := ⟨2, ![32, 1]⟩

abbrev nBuf : Space → Nat
  | .hbm => 15
  | .vmem => 29
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S32x1024, .f32⟩
  | .local _ .vmem, ⟨0, _⟩ => ⟨S32x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1024x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1x1024, .f32⟩
  | .local _ .vmem, ⟨22, _⟩ => ⟨S1024x1024, .f32⟩
  | .local _ .vmem, ⟨23, _⟩ => ⟨S1x1024, .f32⟩
  | .local _ .vmem, ⟨24, _⟩ => ⟨S32x1024, .f32⟩
  | .local _ .vmem, ⟨25, _⟩ => ⟨S32x16x1024, .f32⟩
  | .local _ .vmem, ⟨26, _⟩ => ⟨S32x16x1024, .f32⟩
  | .local _ .vmem, ⟨27, _⟩ => ⟨S32x1x16, .f32⟩
  | .local _ .vmem, ⟨28, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
def k0_off2 (i : grid0.Coords) : Fin 3 → Nat :=
  let arg0 : BitVec 32 := BitVec.ofNat 32 (i 0).val
  let v57 : Index := Scalar.indexCast arg0
  let c0_27 : Index := 0#32
  let c0_28 : Index := 0#32
  ![v57.toNat, 0, 0]
def k0_cond2 (i : grid0.Coords) : BitVec 1 :=
  let arg0 : BitVec 32 := BitVec.ofNat 32 (i 0).val
  let c31_i32 : BitVec 32 := 31#32
  let v82 : BitVec 1 := Scalar.cmpi .eq arg0 c31_i32
  let v83 : BitVec 32 := Scalar.extui v82
  let c0_i32_48 : BitVec 32 := 0#32
  let v84 : BitVec 1 := Scalar.cmpi .ne v83 c0_i32_48
  v84

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1x2048 : Shape := ⟨2, ![1, 2048]⟩
abbrev S1x1024 : Shape := ⟨2, ![1, 1024]⟩
abbrev S32x1x16x64 : Shape := ⟨4, ![32, 1, 16, 64]⟩
abbrev S1x1x1024 : Shape := ⟨3, ![1, 1, 1024]⟩
abbrev S32x2048x16x64 : Shape := ⟨4, ![32, 2048, 16, 64]⟩
abbrev S32x16x1x64 : Shape := ⟨4, ![32, 16, 1, 64]⟩
abbrev S32x16x2048x64 : Shape := ⟨4, ![32, 16, 2048, 64]⟩
abbrev S_ : Shape := ⟨0, ![]⟩
abbrev S1x2048x1 : Shape := ⟨3, ![1, 2048, 1]⟩
abbrev S32x16x1x2048x64 : Shape := ⟨5, ![32, 16, 1, 2048, 64]⟩
abbrev S32x16x1x2048 : Shape := ⟨4, ![32, 16, 1, 2048]⟩
abbrev S32x16x1 : Shape := ⟨3, ![32, 16, 1]⟩
abbrev S32x16x1x1 : Shape := ⟨4, ![32, 16, 1, 1]⟩
abbrev S1 : Shape := ⟨1, ![1]⟩
abbrev S1x1x1x1 : Shape := ⟨4, ![1, 1, 1, 1]⟩
abbrev S32x16x64x2048 : Shape := ⟨4, ![32, 16, 64, 2048]⟩
abbrev S32x16x64 : Shape := ⟨3, ![32, 16, 64]⟩
abbrev S32 : Shape := ⟨1, ![32]⟩
abbrev S32x1x1 : Shape := ⟨3, ![32, 1, 1]⟩
abbrev S16 : Shape := ⟨1, ![16]⟩
abbrev S1x16x1 : Shape := ⟨3, ![1, 16, 1]⟩
abbrev S32x16x1x3 : Shape := ⟨4, ![32, 16, 1, 3]⟩

abbrev nBuf : Space → Nat
  | .hbm => 137
  | .vmem => 0
  | .smem => 0
  | _ => 0

abbrev hbmTy0_0 (i : Nat) : BufTy := match i % 128 with
  | 0 => ⟨S32x1024, .f32⟩
  | 1 => ⟨S32x2048x1024, .f32⟩
  | 2 => ⟨S32x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1x2048, .i32⟩
  | 12 => ⟨S32x1024, .f32⟩
  | 13 => ⟨S1x1024, .f32⟩
  | 14 => ⟨S32x1024, .f32⟩
  | 15 => ⟨S32x1024, .f32⟩
  | 16 => ⟨S32x1x16x64, .f32⟩
  | 17 => ⟨S32x2048x1024, .f32⟩
  | 18 => ⟨S1x1x1024, .f32⟩
  | 19 => ⟨S32x2048x1024, .f32⟩
  | 20 => ⟨S32x2048x1024, .f32⟩
  | 21 => ⟨S32x2048x16x64, .f32⟩
  | 22 => ⟨S32x2048x1024, .f32⟩
  | 23 => ⟨S1x1x1024, .f32⟩
  | 24 => ⟨S32x2048x1024, .f32⟩
  | 25 => ⟨S32x2048x1024, .f32⟩
  | 26 => ⟨S32x2048x16x64, .f32⟩
  | 27 => ⟨S32x16x1x64, .f32⟩
  | 28 => ⟨S32x16x2048x64, .f32⟩
  | 29 => ⟨S32x16x2048x64, .f32⟩
  | 30 => ⟨S_, .i32⟩
  | 31 => ⟨S1x2048, .i32⟩
  | 32 => ⟨S1x2048, .i1⟩
  | 33 => ⟨S_, .i32⟩
  | 34 => ⟨S1x2048, .i32⟩
  | 35 => ⟨S1x2048, .i32⟩
  | 36 => ⟨S1x2048, .i32⟩
  | 37 => ⟨S1x2048x1, .i32⟩
  | 38 => ⟨S32x16x1x2048x64, .f32⟩
  | 39 => ⟨S32x16x1x2048, .f32⟩
  | 40 => ⟨S_, .f32⟩
  | 41 => ⟨S32x16x1, .f32⟩
  | 42 => ⟨S_, .f32⟩
  | 43 => ⟨S32x16x1, .f32⟩
  | 44 => ⟨S_, .f32⟩
  | 45 => ⟨S32x16x1, .f32⟩
  | 46 => ⟨S32x16x1, .f32⟩
  | 47 => ⟨S32x16x1, .f32⟩
  | 48 => ⟨S32x16x1, .f32⟩
  | 49 => ⟨S32x16x1, .i32⟩
  | 50 => ⟨S32x16x1x1, .i32⟩
  | 51 => ⟨S_, .i32⟩
  | 52 => ⟨S32x16x1x1, .i32⟩
  | 53 => ⟨S32x16x1x1, .i1⟩
  | 54 => ⟨S_, .i32⟩
  | 55 => ⟨S32x16x1x1, .i32⟩
  | 56 => ⟨S32x16x1x1, .i32⟩
  | 57 => ⟨S32x16x1x1, .i32⟩
  | 58 => ⟨S1, .i32⟩
  | 59 => ⟨S_, .i32⟩
  | 60 => ⟨S32x16x1x1, .i32⟩
  | 61 => ⟨S32x16x1x1, .i1⟩
  | 62 => ⟨S1x1x1x1, .i32⟩
  | 63 => ⟨S32x16x1x1, .i32⟩
  | 64 => ⟨S32x16x1x1, .i1⟩
  | 65 => ⟨S32x16x1x1, .i1⟩
  | 66 => ⟨S_, .i1⟩
  | 67 => ⟨S32x16x1, .i1⟩
  | 68 => ⟨S32x16x1x64, .f32⟩
  | 69 => ⟨S32x16x1x64, .i1⟩
  | 70 => ⟨S_, .f32⟩
  | 71 => ⟨S32x16x1x64, .f32⟩
  | 72 => ⟨S32x16x1x64, .f32⟩
  | 73 => ⟨S32x16x64x2048, .f32⟩
  | 74 => ⟨S32x16x1x2048, .f32⟩
  | 75 => ⟨S_, .f32⟩
  | 76 => ⟨S32x16x1x2048, .f32⟩
  | 77 => ⟨S32x16x1x2048, .f32⟩
  | 78 => ⟨S_, .f32⟩
  | 79 => ⟨S32x16x64, .f32⟩
  | 80 => ⟨S_, .f32⟩
  | 81 => ⟨S32x16x64, .f32⟩
  | 82 => ⟨S32x16x64, .f32⟩
  | 83 => ⟨S32x16x1x64, .f32⟩
  | 84 => ⟨S_, .f32⟩
  | 85 => ⟨S32x16x1, .f32⟩
  | 86 => ⟨S_, .f32⟩
  | 87 => ⟨S32x16x1, .f32⟩
  | 88 => ⟨S32x16x1, .f32⟩
  | 89 => ⟨S32x16x1x1, .f32⟩
  | 90 => ⟨S32x16x1x2048, .f32⟩
  | 91 => ⟨S32x16x1x2048, .f32⟩
  | 92 => ⟨S32x16x1x2048, .f32⟩
  | 93 => ⟨S_, .f32⟩
  | 94 => ⟨S32x16x1, .f32⟩
  | 95 => ⟨S32x16x1x1, .f32⟩
  | 96 => ⟨S32x16x1x2048, .f32⟩
  | 97 => ⟨S32x16x1x2048, .f32⟩
  | 98 => ⟨S32x16x1x64, .f32⟩
  | 99 => ⟨S32, .i32⟩
  | 100 => ⟨S32x1x1, .i32⟩
  | 101 => ⟨S16, .i32⟩
  | 102 => ⟨S1x16x1, .i32⟩
  | 103 => ⟨S_, .i32⟩
  | 104 => ⟨S32x1x1, .i32⟩
  | 105 => ⟨S32x1x1, .i1⟩
  | 106 => ⟨S_, .i32⟩
  | 107 => ⟨S32x1x1, .i32⟩
  | 108 => ⟨S32x1x1, .i32⟩
  | 109 => ⟨S32x1x1, .i32⟩
  | 110 => ⟨S_, .i32⟩
  | 111 => ⟨S1x16x1, .i32⟩
  | 112 => ⟨S1x16x1, .i1⟩
  | 113 => ⟨S_, .i32⟩
  | 114 => ⟨S1x16x1, .i32⟩
  | 115 => ⟨S1x16x1, .i32⟩
  | 116 => ⟨S1x16x1, .i32⟩
  | 117 => ⟨S_, .i32⟩
  | 118 => ⟨S32x16x1, .i32⟩
  | 119 => ⟨S32x16x1, .i1⟩
  | 120 => ⟨S_, .i32⟩
  | 121 => ⟨S32x16x1, .i32⟩
  | 122 => ⟨S32x16x1, .i32⟩
  | 123 => ⟨S32x16x1, .i32⟩
  | 124 => ⟨S32x16x1, .i32⟩
  | 125 => ⟨S32x16x1, .i32⟩
  | 126 => ⟨S32x16x1x1, .i32⟩
  | 127 => ⟨S32x16x1x1, .i32⟩
  | _ => ⟨S32x1024, .f32⟩

abbrev hbmTy0_1 (i : Nat) : BufTy := match i % 128 with
  | 0 => ⟨S32x16x1x1, .i32⟩
  | 1 => ⟨S32x16x1x3, .i32⟩
  | 2 => ⟨S32x16x1x64, .f32⟩
  | 3 => ⟨S32x1x16x64, .f32⟩
  | 4 => ⟨S32x1024, .f32⟩
  | 5 => ⟨S32x1024, .f32⟩
  | 6 => ⟨S1x1024, .f32⟩
  | 7 => ⟨S32x1024, .f32⟩
  | 8 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_values : Ref sig .tc := ⟨.hbm, 48, rfl⟩
abbrev main_indices : Ref sig .tc := ⟨.hbm, 49, rfl⟩
abbrev main_v31 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_1 : Ref sig .tc := ⟨.hbm, 58, rfl⟩
abbrev main_call0_c_2 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_c_3 : Ref sig .tc := ⟨.hbm, 66, rfl⟩
abbrev main_call0_v11 : Ref sig .tc := ⟨.hbm, 67, rfl⟩
abbrev main_call0_v12 : Ref sig .tc := ⟨.hbm, 68, rfl⟩
abbrev main_call0_v13 : Ref sig .tc := ⟨.hbm, 69, rfl⟩
abbrev main_call0_cst : Ref sig .tc := ⟨.hbm, 70, rfl⟩
abbrev main_call0_v14 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_4 : Ref sig .tc := ⟨.hbm, 75, rfl⟩
abbrev main_v35 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_cst_6 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_7 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_9 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_10 : Ref sig .tc := ⟨.hbm, 103, rfl⟩
abbrev main_v57 : Ref sig .tc := ⟨.hbm, 104, rfl⟩
abbrev main_v58 : Ref sig .tc := ⟨.hbm, 105, rfl⟩
abbrev main_c_11 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_12 : Ref sig .tc := ⟨.hbm, 110, rfl⟩
abbrev main_v62 : Ref sig .tc := ⟨.hbm, 111, rfl⟩
abbrev main_v63 : Ref sig .tc := ⟨.hbm, 112, rfl⟩
abbrev main_c_13 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_14 : Ref sig .tc := ⟨.hbm, 117, rfl⟩
abbrev main_v67 : Ref sig .tc := ⟨.hbm, 118, rfl⟩
abbrev main_v68 : Ref sig .tc := ⟨.hbm, 119, rfl⟩
abbrev main_c_15 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩

abbrev nD : Nat := 1
abbrev τ : Topo := Topo.v7x

variable {F : FTy → Type} [FloatOps F]
-- ==== Proof.KI.Common.lean ====
/- What the three runs of the kernel's body share: the two branch conditions in closed form over the grid's points,
   where the output window is idle, the staging and scratch memrefs, and the region's scratch buffers as memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body prepares the key-side rows (the first point). -/
abbrev condFirst (i : grid0.Coords) : Prop := (Scalar.cmpi .ne (Scalar.extui (Scalar.cmpi .eq (BitVec.ofNat 32 (i 0).val) 0#32)) 0#32) = 1#1
/-- The condition under which the body writes the output (the last point). -/
abbrev condLast (i : grid0.Coords) : Prop := k0_cond2 i = 1#1

/-- The only coordinate of a grid point is its number. -/
theorem coords_val (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  rw [e0]; omega

/-- The first condition holds at point 0 only. -/
theorem condFirst_iff (t : Fin cfg0.N) : condFirst (grid0.coords t) ↔ t.val = 0 := by
  have ht : t.val < 32 := Nat.lt_of_lt_of_eq t.isLt N_0
  simp only [condFirst, coords_val]
  word_cmp

/-- The last condition holds at point 31 only. -/
theorem condLast_iff (t : Fin cfg0.N) : condLast (grid0.coords t) ↔ t.val = 31 := by
  have ht : t.val < 32 := Nat.lt_of_lt_of_eq t.isLt N_0
  simp only [condLast, k0_cond2, coords_val]
  word_cmp

/-- Away from the last point the output window is idle, -/
theorem idle_out : ∀ t : Fin cfg0.N, ¬condLast (grid0.coords t) → cfg0.idle 16 (grid0.coords t) = true := by decide +kernel
/-- and its block is not written back there. -/
theorem noFlush_out : ∀ t : Fin cfg0.N, ¬condLast (grid0.coords t) → (cfg0.win 16).flush t = false := by decide +kernel
/-- At the last point it is live. -/
theorem live_out : ∀ t : Fin cfg0.N, condLast (grid0.coords t) → cfg0.idle 16 (grid0.coords t) = false := by decide +kernel
/-- An input window is never idle. -/
theorem live_in (w : Fin cfg0.W) (hw : w ≠ 16) (t : Fin cfg0.N) : cfg0.idle w (grid0.coords t) = false := by
  revert hw; fin_cases w <;> first | (intro _; rfl) | (intro h; exact absurd rfl h)

/-! The scratch buffers as memrefs: the key-side rows, the weighted value sums, the exponential sums, the update. -/
abbrev scU : Memref sig .tc .vmem S32x16x1024 .f32 := Memref.whole cc0_scratch0
/-- The scratch of weighted value sums. -/
abbrev scA : Memref sig .tc .vmem S32x16x1024 .f32 := Memref.whole cc0_scratch1
/-- The scratch of exponential sums. -/
abbrev scS : Memref sig .tc .vmem S32x1x16 .f32 := Memref.whole cc0_scratch2
/-- The scratch of the update. -/
abbrev scD : Memref sig .tc .vmem S32x1024 .f32 := Memref.whole cc0_scratch3

/-- The launch's invariant with the scratch buffers as memrefs owned at some contents. -/
theorem PhiA_eq (c : Dev nD) :
    (Pipeline.ΦA spec0 c : sProp 𝕄)
      = iprop(iprop((∃ d, owns (c : Thread nD τ) scU fullShare d) ∗ (∃ d, owns (c : Thread nD τ) scA fullShare d)
          ∗ (∃ d, owns (c : Thread nD τ) scS fullShare d) ∗ (∃ d, owns (c : Thread nD τ) scD fullShare d))
        ∗ (∃ r, prngReg c r)) := by
  unfold Pipeline.ΦA; rw [scopedRest0_eq]; simp only [scU, scA, scS, scD, owns_whole]; try rfl

end Cert.KernelIdeal.Hand

end
-- ==== Proof.KI.RunB.lean ====
/- The body at a middle point: it reads the point's rows of the first scratch and the eight quarter blocks, and writes
   one row of the exponential sums and of the weighted value sums. -/
module

public import proofs.«01_k».proof.Proof.KI.Common

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S32x1024 .f32) (harg1 : arg1.IsWhole)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S1x512x1024 .f32) (harg6 : arg6.IsWhole)
  (arg7 : Memref sig .tc .vmem S1x512x1024 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1x1024 .f32) (harg16 : arg16.IsWhole)
  (arg17 : Memref sig .tc .vmem S32x1024 .f32) (harg17 : arg17.IsWhole)
  (arg18 : Memref sig .tc .vmem S32x16x1024 .f32) (harg18 : arg18.IsWhole)
  (arg19 : Memref sig .tc .vmem S32x16x1024 .f32) (harg19 : arg19.IsWhole)
  (arg20 : Memref sig .tc .vmem S32x1x16 .f32) (harg20 : arg20.IsWhole)
  (arg21 : Memref sig .tc .vmem S32x1024 .f32) (harg21 : arg21.IsWhole)

set_option maxHeartbeats 4000000 in
/-- At a middle point, from the key and value blocks and the three scratches at named contents, the body ends with the
    first scratch as it was and the other two at the same contents with the found pieces written over them; it touches
    no other buffer. -/
noncomputable def runB (hc0 : ¬condFirst i) (hc1 : ¬condLast i)
    (x1 x2 x3 x4 x5 x6 x7 x8 : Vec F S1x512x1024 .f32) (xu xa : Vec F S32x16x1024 .f32) (xs : Vec F S32x1x16 .f32) :
    Σ' (LA : List (View.Piece (Elt F) S32x16x1024 .f32)), { LS : List (View.Piece (Elt F) S32x1x16 .f32) //
      ∀ (E : Set ℕ) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg18 fullShare xu ∗ owns (c : Thread nD τ) arg19 fullShare xa ∗ owns (c : Thread nD τ) arg20 fullShare xs
            ∗ (iprop(owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg18 fullShare xu
            ∗ (arg19.view.loc (c : Thread nD τ) ↦[arg19.view.set]{fullShare} arg19.view.writes (Elt F) (harg19.unread xa) LA)
            ∗ (arg20.view.loc (c : Thread nD τ) ↦[arg20.view.set]{fullShare} arg20.view.writes (Elt F) (harg20.unread xs) LS)) -∗ K ⟨⟩))
          ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__mha_kernel_eq_skeleton]; unfold cc0__mha_kernel_skel
    simp only [k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fu, %hfu, HU⟩, ⟨%fa, %hfa, HA⟩, ⟨%fs, %hfs, HS⟩, Hk⟩
    obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8
    obtain rfl := harg18.eq_unread hfu; obtain rfl := harg19.eq_unread hfa; obtain rfl := harg20.eq_unread hfs
    sl_exec (disch := first | sl_exact hc0 | sl_exact hc1)
    sl_step
    iapply Hk
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H7]; · iexists _; isplitr; · ipureintro; exact harg8.read_unread _
                    iexact H7
    isplitl [H8]; · iexists _; isplitr; · ipureintro; exact harg9.read_unread _
                    iexact H8
    isplitl [HU]; · iexists _; isplitr; · ipureintro; exact harg18.read_unread _
                    iexact HU
    isplitl [HA]
    · iexact HA
    iexact HS

end Cert.KernelIdeal.Hand

end
-- ==== Proof.KI.RunA.lean ====
/- The body at the first point: it fills the key-side rows, then does what a middle point does. -/
module

public import proofs.«01_k».proof.Proof.KI.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S32x1024 .f32) (harg1 : arg1.IsWhole)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S1x512x1024 .f32) (harg6 : arg6.IsWhole)
  (arg7 : Memref sig .tc .vmem S1x512x1024 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1x1024 .f32) (harg16 : arg16.IsWhole)
  (arg17 : Memref sig .tc .vmem S32x1024 .f32) (harg17 : arg17.IsWhole)
  (arg18 : Memref sig .tc .vmem S32x16x1024 .f32) (harg18 : arg18.IsWhole)
  (arg19 : Memref sig .tc .vmem S32x16x1024 .f32) (harg19 : arg19.IsWhole)
  (arg20 : Memref sig .tc .vmem S32x1x16 .f32) (harg20 : arg20.IsWhole)
  (arg21 : Memref sig .tc .vmem S32x1024 .f32) (harg21 : arg21.IsWhole)

set_option maxHeartbeats 8000000 in
/-- At the first point, from the query, the two projections it needs, the key and value blocks and the two carried
    scratches at named contents, and the key-side scratch at anything, the body ends with the key-side scratch at the
    found pieces and the two carried scratches at the same contents with the found pieces written over them. -/
noncomputable def runA (hc0 : condFirst i) (hc1 : ¬condLast i)
    (x0 : Vec F S32x1024 .f32) (x1 x2 x3 x4 x5 x6 x7 x8 : Vec F S1x512x1024 .f32) (x9 : Vec F S1024x1024 .f32) (x10 : Vec F S1x1024 .f32) (x11 : Vec F S1024x1024 .f32)
    (xa : Vec F S32x16x1024 .f32) (xs : Vec F S32x1x16 .f32) :
    Σ' (LU : List (View.Piece (Elt F) S32x16x1024 .f32)) (LA : List (View.Piece (Elt F) S32x16x1024 .f32)), { LS : List (View.Piece (Elt F) S32x1x16 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ (∃ d, owns (c : Thread nD τ) arg18 fullShare d)
            ∗ owns (c : Thread nD τ) arg19 fullShare xa
            ∗ owns (c : Thread nD τ) arg20 fullShare xs
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ (∃ f, (arg18.view.loc (c : Thread nD τ) ↦[arg18.view.set]{fullShare} arg18.view.writes (Elt F) (f) LU))
            ∗ (arg19.view.loc (c : Thread nD τ) ↦[arg19.view.set]{fullShare} arg19.view.writes (Elt F) (harg19.unread xa) LA)
            ∗ (arg20.view.loc (c : Thread nD τ) ↦[arg20.view.set]{fullShare} arg20.view.writes (Elt F) (harg20.unread xs) LS)) -∗ K ⟨⟩))
          ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    simp only [cc0__mha_kernel_eq_skeleton]; unfold cc0__mha_kernel_skel
    simp only [k0_part1_eq_skeleton, k0_part2_eq_skeleton, k0_part3_eq_skeleton, k0_part4_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d18, %f18, -, H18⟩, ⟨%f19, %hf19, H19⟩, ⟨%f20, %hf20, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg19.eq_unread hf19
    obtain rfl := harg20.eq_unread hf20
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H18]
    · iexists _; iexact H18
    isplitl [H19]
    · iexact H19
    iexact H20

end Cert.KernelIdeal.Hand

end
-- ==== Proof.KI.RunC.lean ====
/- The body at the last point: it does what a middle point does, then writes the update and the output. -/
module

public import proofs.«01_k».proof.Proof.KI.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S32x1024 .f32) (harg1 : arg1.IsWhole)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S1x512x1024 .f32) (harg6 : arg6.IsWhole)
  (arg7 : Memref sig .tc .vmem S1x512x1024 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1x1024 .f32) (harg16 : arg16.IsWhole)
  (arg17 : Memref sig .tc .vmem S32x1024 .f32) (harg17 : arg17.IsWhole)
  (arg18 : Memref sig .tc .vmem S32x16x1024 .f32) (harg18 : arg18.IsWhole)
  (arg19 : Memref sig .tc .vmem S32x16x1024 .f32) (harg19 : arg19.IsWhole)
  (arg20 : Memref sig .tc .vmem S32x1x16 .f32) (harg20 : arg20.IsWhole)
  (arg21 : Memref sig .tc .vmem S32x1024 .f32) (harg21 : arg21.IsWhole)

set_option maxHeartbeats 8000000 in
/-- At the last point, from the key and value blocks, the three projections it needs, and the three carried scratches at
    named contents, the body ends with the update and the output at the found pieces, and the two written scratches at
    the same contents with the found pieces written over them. -/
noncomputable def runC (hc0 : ¬condFirst i) (hc1 : condLast i)
    (x1 x2 x3 x4 x5 x6 x7 x8 : Vec F S1x512x1024 .f32) (x12 : Vec F S1024x1024 .f32) (x13 : Vec F S1x1024 .f32) (x14 : Vec F S1024x1024 .f32) (x15 : Vec F S1x1024 .f32)
    (xu xa : Vec F S32x16x1024 .f32) (xs : Vec F S32x1x16 .f32) :
    Σ' (LO : List (View.Piece (Elt F) S32x1024 .f32)) (LD : List (View.Piece (Elt F) S32x1024 .f32)) (LA : List (View.Piece (Elt F) S32x16x1024 .f32)), { LS : List (View.Piece (Elt F) S32x1x16 .f32) //
      ∀ (E : Set ℕ) (K : PUnit → sProp 𝕄),
        iprop(owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg18 fullShare xu
            ∗ (∃ d, owns (c : Thread nD τ) arg17 fullShare d)
            ∗ (∃ d, owns (c : Thread nD τ) arg21 fullShare d)
            ∗ owns (c : Thread nD τ) arg19 fullShare xa
            ∗ owns (c : Thread nD τ) arg20 fullShare xs
            ∗ (iprop(owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg18 fullShare xu
            ∗ (∃ f, (arg17.view.loc (c : Thread nD τ) ↦[arg17.view.set]{fullShare} arg17.view.writes (Elt F) (f) LO))
            ∗ (∃ f, (arg21.view.loc (c : Thread nD τ) ↦[arg21.view.set]{fullShare} arg21.view.writes (Elt F) (f) LD))
            ∗ (arg19.view.loc (c : Thread nD τ) ↦[arg19.view.set]{fullShare} arg19.view.writes (Elt F) (harg19.unread xa) LA)
            ∗ (arg20.view.loc (c : Thread nD τ) ↦[arg20.view.set]{fullShare} arg20.view.writes (Elt F) (harg20.unread xs) LS)) -∗ K ⟨⟩))
          ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0__mha_kernel_eq_skeleton]; unfold cc0__mha_kernel_skel
    simp only [k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩, ⟨%f18, %hf18, H18⟩, ⟨%d17, %f17, -, H17⟩, ⟨%d21, %f21, -, H21⟩, ⟨%f19, %hf19, H19⟩, ⟨%f20, %hf20, H20⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg13.eq_unread hf13
    obtain rfl := harg14.eq_unread hf14
    obtain rfl := harg15.eq_unread hf15
    obtain rfl := harg16.eq_unread hf16
    obtain rfl := harg18.eq_unread hf18
    obtain rfl := harg19.eq_unread hf19
    obtain rfl := harg20.eq_unread hf20
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H18]
    · iexists _; isplitr; · ipureintro; exact harg18.read_unread _
      iexact H18
    isplitl [H17]
    · iexists _; iexact H17
    isplitl [H21]
    · iexists _; iexact H21
    isplitl [H19]
    · iexact H19
    iexact H20

end Cert.KernelIdeal.Hand

end
-- ==== Proof.KI.Values.lean ====
/- What the body computes, as functions of the blocks it reads: the key-side rows of the first point, a point's row of
   exponential sums and of weighted value sums, and the update and output of the last point. -/
module

public import proofs.«01_k».proof.Proof.KI.RunC
public import Idealize.ShloMosaic.Lib.ValueIdx
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.ValueIdx Idealize.ShloMosaic.Tactic

variable {F : FTy → Type} [FloatOps F]

/-- The 128 columns from `o` of an array of 1024 columns. -/
def cols {α : Type} {n : ℕ} (o : ℕ) (ho : o + 128 ≤ 1024) (x : (⟨2, ![n, 1024]⟩ : Shape).Idx → α) : (⟨2, ![n, 128]⟩ : Shape).Idx → α :=
  fun j => x (ix2 (j 0) ⟨o + (j 1).val, Nat.lt_of_lt_of_le (Nat.add_lt_add_left (idx2_lt1 j) o) ho⟩)

/-- Head `h`'s rows of an array over the heads. -/
def headRows {α : Type} (h : Fin 16) (x : S32x16x1024.Idx → α) : S32x1x1024.Idx → α := fun j => x (ix3 (j 0) h (j 2))

/-- Point `i`'s rows of an array over the batch. -/
def batchRows {α : Type} (i : Fin 32) (x : S32x16x1024.Idx → α) : S1x16x1024.Idx → α := fun j => x (ix3 i (j 1) (j 2))

/-- The mask of the even (`0`) or odd (`1`) head of a pair over the pair's 128 columns. -/
def mask (h : ℕ) : FVec F S1x128 .f32 :=
  if h % 2 = 0 then k0_pay5 else subf (broadcast S1x128 (Scalar.ofBits .f32 0x3F800000#32)) k0_pay5

/-- One head's key-side rows: the pair's masked query columns against the pair's key columns. -/
def pairRow (msk : FVec F S1x128 .f32) (qp : FVec F S32x128 .f32) (w : Vec F S1024x128 .f32) : FVec F S32x1x1024 .f32 :=
  shapeCast S32x1x1024 (matmul dot_S32x128_S1024x128_S32x1024_1_1_0_0_n_n none (mulf qp (broadcastTo S32x128 msk broadcasts_S1x128_S32x128)) w
    (constant S32x1024 .f32 0x00000000#32)) shapeCasts_S32x1024_S32x1x1024

/-- Head `h`'s key-side rows from the projected query and the key projection. -/
def uRows (qh : FVec F S32x1024 .f32) (wk : Vec F S1024x1024 .f32) (h : Fin 16) : FVec F S32x1x1024 .f32 :=
  pairRow (mask h.val) (cols (128 * (h.val / 2)) (by omega) qh) (cols (128 * (h.val / 2)) (by omega) wk)

/-- All key-side rows. -/
def uVal (x0 : Vec F S32x1024 .f32) (x9 : Vec F S1024x1024 .f32) (x10 : Vec F S1x1024 .f32) (x11 : Vec F S1024x1024 .f32) : Vec F S32x16x1024 .f32 :=
  fun y => uRows (k0_pay4 x0 x9 x10) x11 (y 1) (ix3 (y 0) 0 (y 2))

/-- A point's exponential sums, one per head. -/
def rowS (u : Vec F S1x16x1024 .f32) (k1 k2 k3 k4 : Vec F S1x512x1024 .f32) : FVec F S1x1x16 .f32 :=
  k0_pay63 (k0_pay53 u k1) (k0_pay54 u k2) (k0_pay55 u k3) (k0_pay56 u k4) (k0_pay57 u k1 k2 k3 k4) (k0_pay58 u k1 k2 k3 k4)

/-- A point's weighted value sums, one row per head. -/
def rowA (u : Vec F S1x16x1024 .f32) (k1 k2 k3 k4 v1 v2 v3 v4 : Vec F S1x512x1024 .f32) : FVec F S1x16x1024 .f32 :=
  k0_pay1 (k0_pay61 (k0_pay55 u k3) (k0_pay57 u k1 k2 k3 k4)) (k0_pay62 (k0_pay56 u k4) (k0_pay57 u k1 k2 k3 k4))
    (k0_pay64 (k0_pay53 u k1) (k0_pay54 u k2) (k0_pay57 u k1 k2 k3 k4) (k0_pay58 u k1 k2 k3 k4) v1 v2) (k0_pay65 v3)
    (constant S16x1024 .f32 0x00000000#32) v4

/-- One head's weighted value sums over its exponential sum. -/
def headMean (r : FVec F S32x1x16 .f32) (a : Vec F S32x1x1024 .f32) (h : Fin 16) : FVec F S32x1024 .f32 :=
  mulf (shapeCast S32x1024 a shapeCasts_S32x1x1024_S32x1024)
    (broadcastTo S32x1024 (shapeCast S32x1 (fun j : S32x1x1.Idx => r (ix3 (j 0) 0 ⟨h.val + (j 2).val, by have := (j 2).isLt; have : (j 2).val < 1 := this; omega⟩)) shapeCasts_S32x1x1_S32x1) broadcasts_S32x1_S32x1024)

/-- One pair's columns of the update: each head's mean through the pair's value columns, masked, plus the bias. -/
def pairUpd (m0 m1 : FVec F S32x1024 .f32) (w : Vec F S1024x128 .f32) (b : Vec F S1x128 .f32) : FVec F S32x128 .f32 :=
  shapeCast S32x128 (addf (addf
    (mulf (matmul dot_S32x1024_S1024x128_S32x128_1_0_0_1_n_n none m0 w (constant S32x128 .f32 0x00000000#32)) (broadcastTo S32x128 (k0_pay33 (F := F)) broadcasts_S1x128_S32x128))
    (mulf (matmul dot_S32x1024_S1024x128_S32x128_1_0_0_1_n_n none m1 w (constant S32x128 .f32 0x00000000#32))
      (broadcastTo S32x128 (subf (broadcast S1x128 (Scalar.ofBits .f32 0x3F800000#32)) (k0_pay33 (F := F))) broadcasts_S1x128_S32x128)))
    (broadcastTo S32x128 (shapeCast S1x128 b shapeCasts_S1x128_S1x128) broadcasts_S1x128_S32x128)) shapeCasts_S32x128_S32x128

/-- Pair `p`'s columns of the update from the two carried sums and the value projection. -/
def updCols (a : Vec F S32x16x1024 .f32) (s : Vec F S32x1x16 .f32) (wv : Vec F S1024x1024 .f32) (bv : Vec F S1x1024 .f32) (p : Fin 8) : FVec F S32x128 .f32 :=
  pairUpd (headMean (k0_pay32 s) (headRows ⟨2 * p.val, by omega⟩ a) ⟨2 * p.val, by omega⟩)
    (headMean (k0_pay32 s) (headRows ⟨2 * p.val + 1, by omega⟩ a) ⟨2 * p.val + 1, by omega⟩)
    (cols (128 * p.val) (by omega) wv) (cols (128 * p.val) (by omega) bv)

/-- The whole update. -/
def updVal (a : Vec F S32x16x1024 .f32) (s : Vec F S32x1x16 .f32) (wv : Vec F S1024x1024 .f32) (bv : Vec F S1x1024 .f32) : Vec F S32x1024 .f32 :=
  fun y => updCols a s wv bv ⟨(y 1).val / 128, by have := idx2_lt1 y; omega⟩ (ix2 (y 0) ⟨(y 1).val % 128, by omega⟩)

/-- The output from the two carried sums. -/
def outVal (a : Vec F S32x16x1024 .f32) (s : Vec F S32x1x16 .f32) (wv : Vec F S1024x1024 .f32) (bv : Vec F S1x1024 .f32)
    (wo : Vec F S1024x1024 .f32) (bo : Vec F S1x1024 .f32) : Vec F S32x1024 .f32 :=
  k0_pay3 (updVal a s wv bv) wo bo

/-! ## How the run's loads read -/

section Reads

variable {sig' : RefSig} {κ : Kind} {sp : Space}

/-- A load of a whole buffer held at the contents that read `X` reads `X`. -/
theorem readAt_whole {s : Shape} {e : EltTy} {m : Memref sig' κ sp s e} (h : m.IsWhole) (X : s.Idx → Elt F e) {off : Fin s.rank → ℕ}
    (inb : ∀ a, off a + s.size a ≤ s.size a) :
    View.readAt (Elt F) m.view (Rect.unit (s := s) off s.size inb).toLoadRect (h.unread X) = X :=
  (View.readAt_full m.view _ inb).trans (h.read_unread X)

/-- A load of 128 columns reads them. -/
theorem readAt_cols {n : ℕ} {m : Memref sig' κ sp ⟨2, ![n, 1024]⟩ .f32} (h : m.IsWhole) (X : (⟨2, ![n, 1024]⟩ : Shape).Idx → Elt F .f32) (o : ℕ) (ho : o + 128 ≤ 1024)
    (inb : ∀ a : Fin 2, (![0, o] : Fin 2 → ℕ) a + (⟨2, ![n, 128]⟩ : Shape).size a ≤ (⟨2, ![n, 1024]⟩ : Shape).size a) :
    View.readAt (Elt F) m.view (Rect.unit (s := ⟨2, ![n, 1024]⟩) ![0, o] (⟨2, ![n, 128]⟩ : Shape).size inb).toLoadRect (h.unread X) = cols o ho X := by
  funext j
  refine (h.readAt_unread X _ j).trans (congrArg X (funext fun a => Fin.ext ?_))
  show (![0, o] : Fin 2 → ℕ) a + 1 * (j a).val = _
  match a with
  | ⟨0, _⟩ => show 0 + 1 * (j 0).val = (j 0).val; omega
  | ⟨1, _⟩ => show o + 1 * (j 1).val = o + (j 1).val; omega

/-- A slice of 128 columns of a value. -/
theorem slice_cols {α : Type} {n : ℕ} (X : (⟨2, ![n, 1024]⟩ : Shape).Idx → α) (o : ℕ) (ho : o + 128 ≤ 1024)
    (h : (⟨2, ![n, 1024]⟩ : Shape).Slices ![0, o] ⟨2, ![n, 128]⟩) :
    extractStridedSlice (⟨2, ![n, 128]⟩ : Shape) ![0, o] X h = cols o ho X := by
  funext j
  refine congrArg X (funext fun a => Fin.ext ?_)
  match a with
  | ⟨0, _⟩ => show 0 + (j 0).val = (j 0).val; omega
  | ⟨1, _⟩ => rfl

end Reads

/-- Entry `x` of head `h`'s rows is the entry of all the rows that the head's rectangle places it at. -/
theorem uRows_eq (x0 : Vec F S32x1024 .f32) (x9 : Vec F S1024x1024 .f32) (x10 : Vec F S1x1024 .f32) (x11 : Vec F S1024x1024 .f32) (h : Fin 16)
    (inb : ∀ a : Fin 3, (![0, h.val, 0] : Fin 3 → ℕ) a + S32x1x1024.size a ≤ S32x16x1024.size a) (w : FVec F S32x1x1024 .f32)
    (hw : w = uRows (k0_pay4 x0 x9 x10) x11 h) (x : S32x1x1024.Idx) :
    w x = uVal x0 x9 x10 x11 ((Rect.unit (s := S32x16x1024) ![0, h.val, 0] S32x1x1024.size inb).emb x) := by
  subst hw
  have e1 : ((Rect.unit (s := S32x16x1024) ![0, h.val, 0] S32x1x1024.size inb).emb x) = ix3 (x 0) h (x 2) := by
    funext a; refine Fin.ext ?_
    show (![0, h.val, 0] : Fin 3 → ℕ) a + 1 * (x a).val = _
    have h1 : (x 1).val < 1 := (x 1).isLt
    match a with
    | ⟨0, _⟩ => show 0 + 1 * (x 0).val = (x 0).val; omega
    | ⟨1, _⟩ => show h.val + 1 * (x 1).val = h.val; omega
    | ⟨2, _⟩ => show 0 + 1 * (x 2).val = (x 2).val; omega
  rw [e1]
  show uRows _ _ h x = uRows _ _ h (ix3 (x 0) 0 (x 2))
  refine congrArg _ (funext fun a => ?_)
  match a with
  | ⟨0, _⟩ => rfl
  | ⟨1, _⟩ => exact Fin.ext (show (x 1).val = 0 by have h : (x 1).val < 1 := (x 1).isLt; omega)
  | ⟨2, _⟩ => rfl

section A

variable (c : Dev nD) (i : grid0.Coords)
  (arg1 : Memref sig .tc .vmem S32x1024 .f32) (harg1 : arg1.IsWhole)
  (arg10 : Memref sig .tc .vmem S1024x1024 .f32) (harg10 : arg10.IsWhole)
  (arg11 : Memref sig .tc .vmem S1x1024 .f32) (harg11 : arg11.IsWhole)
  (arg12 : Memref sig .tc .vmem S1024x1024 .f32) (harg12 : arg12.IsWhole)
  (x0 : Vec F S32x1024 .f32) (x9 : Vec F S1024x1024 .f32) (x10 : Vec F S1x1024 .f32) (x11 : Vec F S1024x1024 .f32)

set_option maxHeartbeats 4000000 in
/-- Every piece the first point stores into the key-side scratch holds entries of the key-side rows. -/
theorem piecesU (p : View.Piece (Elt F) S32x16x1024 .f32) (hp : p ∈ runA.sl.H18_16 c arg1 harg1 arg10 harg10 arg11 harg11 arg12 harg12 x0 x9 x10 x11)
    (x : p.1.shape.Idx) : p.2 x = uVal x0 x9 x10 x11 (p.1.emb x) := by
  revert p
  unfold runA.sl.H18_16
  simp only [List.forall_mem_cons, runA.sl.r, runA.sl.r_1, runA.sl.r_2, runA.sl.r_3, runA.sl.r_4, runA.sl.r_5, runA.sl.r_6,
    runA.sl.r_7, runA.sl.r_8, runA.sl.r_9, runA.sl.r_10, runA.sl.r_11, runA.sl.r_12]
  rw [readAt_whole harg1 x0 inb_S32x1024_S32x1024_0_0, readAt_whole harg10 x9 inb_S1024x1024_S1024x1024_0_0, readAt_whole harg11 x10 inb_S1x1024_S1x1024_0_0]
  rw [readAt_cols (F := F) harg12 x11 0 (by omega), readAt_cols (F := F) harg12 x11 128 (by omega), readAt_cols (F := F) harg12 x11 256 (by omega),
    readAt_cols (F := F) harg12 x11 384 (by omega), readAt_cols (F := F) harg12 x11 512 (by omega), readAt_cols (F := F) harg12 x11 640 (by omega),
    readAt_cols (F := F) harg12 x11 768 (by omega), readAt_cols (F := F) harg12 x11 896 (by omega)]
  refine ⟨fun x => uRows_eq x0 x9 x10 x11 15 _ _ ?_ x, fun x => uRows_eq x0 x9 x10 x11 14 _ _ ?_ x, fun x => uRows_eq x0 x9 x10 x11 13 _ _ ?_ x,
    fun x => uRows_eq x0 x9 x10 x11 12 _ _ ?_ x, fun x => uRows_eq x0 x9 x10 x11 11 _ _ ?_ x, fun x => uRows_eq x0 x9 x10 x11 10 _ _ ?_ x,
    fun x => uRows_eq x0 x9 x10 x11 9 _ _ ?_ x, fun x => uRows_eq x0 x9 x10 x11 8 _ _ ?_ x, fun x => uRows_eq x0 x9 x10 x11 7 _ _ ?_ x,
    fun x => uRows_eq x0 x9 x10 x11 6 _ _ ?_ x, fun x => uRows_eq x0 x9 x10 x11 5 _ _ ?_ x, fun x => uRows_eq x0 x9 x10 x11 4 _ _ ?_ x,
    fun x => uRows_eq x0 x9 x10 x11 3 _ _ ?_ x, fun x => uRows_eq x0 x9 x10 x11 2 _ _ ?_ x, fun x => uRows_eq x0 x9 x10 x11 1 _ _ ?_ x,
    fun x => uRows_eq x0 x9 x10 x11 0 _ _ ?_ x, ?_⟩
  case refine_17 => intro p hp; exact absurd hp List.not_mem_nil
  all_goals
    unfold uRows
    rw [← slice_cols (k0_pay4 x0 x9 x10) _ _ (by decide)]
    rfl

/-- The pieces cover the key-side scratch. -/
theorem coverU (y : S32x16x1024.Idx) : ∃ p ∈ runA.sl.H18_16 c arg1 harg1 arg10 harg10 arg11 harg11 arg12 harg12 x0 x9 x10 x11, y ∈ p.1.set := by
  unfold runA.sl.H18_16
  exact View.cover_of_tiledL (s := S32x16x1024) _ S32x1x1024.size (by sl_kernel_rfl) y

end A

end Cert.KernelIdeal.Hand

end
-- ==== Proof.KI.Rows.lean ====
/- What a point leaves in the carried scratches and, at the last point, in the output block. -/
module

public import proofs.«01_k».proof.Proof.KI.Values

@[expose] public section

set_option maxRecDepth 16384

noncomputable section

namespace Cert.KernelIdeal.Hand

open Cert.KernelIdeal Cert.KernelIdeal.Gen
open Idealize.ShloMosaic Idealize.ShloMosaic.ValueIdx Idealize.ShloMosaic.Tactic

variable {F : FTy → Type} [FloatOps F]

/-- The weighted value sums with point `i`'s row replaced. -/
def setRowA (i : Fin 32) (w : S1x16x1024.Idx → F .f32) (x : Vec F S32x16x1024 .f32) : Vec F S32x16x1024 .f32 :=
  fun y => if (y 0).val = i.val then w (ix3 0 (y 1) (y 2)) else x y

/-- The exponential sums with point `i`'s row replaced. -/
def setRowS (i : Fin 32) (w : S1x1x16.Idx → F .f32) (x : Vec F S32x1x16 .f32) : Vec F S32x1x16 .f32 :=
  fun y => if (y 0).val = i.val then w (ix3 0 0 (y 2)) else x y

/-- The grid point as a row number. -/
abbrev rowOf (i : grid0.Coords) : Fin 32 := i 0

/-- A load of point `i`'s rows reads them. -/
theorem readAt_batch (i : grid0.Coords) {m : Memref sig .tc .vmem S32x16x1024 .f32} (h : m.IsWhole) (X : Vec F S32x16x1024 .f32)
    (inb : ∀ a, k0_off1 i a + S1x16x1024.size a ≤ S32x16x1024.size a) :
    View.readAt (Elt F) m.view (Rect.unit (s := S32x16x1024) (k0_off1 i) S1x16x1024.size inb).toLoadRect (h.unread X) = batchRows (rowOf i) X := by
  funext j
  refine (h.readAt_unread X _ j).trans (congrArg X (funext fun a => Fin.ext ?_))
  show k0_off1 i a + 1 * (j a).val = _
  rw [show k0_off1 i a = (![(i 0).val, 0, 0] : Fin 3 → ℕ) a from congrFun (k0_off1_eq i) a]
  have h0 : (j 0).val < 1 := (j 0).isLt
  match a with
  | ⟨0, _⟩ => show (i 0).val + 1 * (j 0).val = (i 0).val; omega
  | ⟨1, _⟩ => show 0 + 1 * (j 1).val = (j 1).val; omega
  | ⟨2, _⟩ => show 0 + 1 * (j 2).val = (j 2).val; omega

/-- Storing point `i`'s row of the weighted value sums over known contents. -/
theorem read_setRowA (i : grid0.Coords) {m : Memref sig .tc .vmem S32x16x1024 .f32} (h : m.IsWhole) (X : Vec F S32x16x1024 .f32)
    (inb : ∀ a, k0_off1 i a + S1x16x1024.size a ≤ S32x16x1024.size a) (w : FVec F S1x16x1024 .f32) :
    m.view.read (Elt F) (m.view.writes (Elt F) (h.unread X) [⟨Rect.unit (s := S32x16x1024) (k0_off1 i) S1x16x1024.size inb, w⟩])
      = setRowA (rowOf i) w X := by
  funext y
  unfold setRowA
  split
  · next hy =>
    refine View.read_writes_cons_unit_of_mem (Val := Elt F) (e := .f32) m.view _ inb w [] y (ix3 0 (y 1) (y 2)) (k0_off1_eq i) fun a => ?_
    match a with
    | ⟨0, _⟩ => show (y 0).val = (i 0).val + 0; exact hy
    | ⟨1, _⟩ => show (y 1).val = 0 + (y 1).val; omega
    | ⟨2, _⟩ => show (y 2).val = 0 + (y 2).val; omega
  · next hy =>
    have hy' : (y 0).val ≠ (i 0).val := hy
    refine (View.read_writes_cons_unit_of_not_mem (Val := Elt F) (e := .f32) m.view (h.unread X) inb w [] y (k0_off1_eq i) (0 : Fin 3) ?_).trans (congrFun (h.read_unread X) y)
    show (y 0).val < (i 0).val ∨ (i 0).val + 1 ≤ (y 0).val
    omega

/-- Storing point `i`'s row of the exponential sums over known contents. -/
theorem read_setRowS (i : grid0.Coords) {m : Memref sig .tc .vmem S32x1x16 .f32} (h : m.IsWhole) (X : Vec F S32x1x16 .f32)
    (inb : ∀ a, k0_off2 i a + S1x1x16.size a ≤ S32x1x16.size a) (w : FVec F S1x1x16 .f32) :
    m.view.read (Elt F) (m.view.writes (Elt F) (h.unread X) [⟨Rect.unit (s := S32x1x16) (k0_off2 i) S1x1x16.size inb, w⟩])
      = setRowS (rowOf i) w X := by
  funext y
  have h1 : (y 1).val < 1 := (y 1).isLt
  unfold setRowS
  split
  · next hy =>
    refine View.read_writes_cons_unit_of_mem (Val := Elt F) (e := .f32) m.view _ inb w [] y (ix3 0 0 (y 2)) (k0_off2_eq i) fun a => ?_
    match a with
    | ⟨0, _⟩ => show (y 0).val = (i 0).val + 0; exact hy
    | ⟨1, _⟩ => show (y 1).val = 0 + 0; omega
    | ⟨2, _⟩ => show (y 2).val = 0 + (y 2).val; omega
  · next hy =>
    have hy' : (y 0).val ≠ (i 0).val := hy
    refine (View.read_writes_cons_unit_of_not_mem (Val := Elt F) (e := .f32) m.view (h.unread X) inb w [] y (k0_off2_eq i) (0 : Fin 3) ?_).trans (congrFun (h.read_unread X) y)
    show (y 0).val < (i 0).val ∨ (i 0).val + 1 ≤ (y 0).val
    omega

/-- A load of head `h`'s rows reads them. -/
theorem readAt_head {m : Memref sig .tc .vmem S32x16x1024 .f32} (hm : m.IsWhole) (X : Vec F S32x16x1024 .f32) (h : ℕ) (hh : h < 16)
    (inb : ∀ a : Fin 3, (![0, h, 0] : Fin 3 → ℕ) a + S32x1x1024.size a ≤ S32x16x1024.size a) :
    View.readAt (Elt F) m.view (Rect.unit (s := S32x16x1024) ![0, h, 0] S32x1x1024.size inb).toLoadRect (hm.unread X) = headRows ⟨h, hh⟩ X := by
  funext j
  refine (hm.readAt_unread X _ j).trans (congrArg X (funext fun a => Fin.ext ?_))
  show (![0, h, 0] : Fin 3 → ℕ) a + 1 * (j a).val = _
  have h1 : (j 1).val < 1 := (j 1).isLt
  match a with
  | ⟨0, _⟩ => show 0 + 1 * (j 0).val = (j 0).val; omega
  | ⟨1, _⟩ => show h + 1 * (j 1).val = h; omega
  | ⟨2, _⟩ => show 0 + 1 * (j 2).val = (j 2).val; omega

/-- Entry `x` of pair `p`'s columns is the entry of the whole update that the pair's rectangle places it at. -/
theorem updCols_eq (a : Vec F S32x16x1024 .f32) (s : Vec F S32x1x16 .f32) (wv : Vec F S1024x1024 .f32) (bv : Vec F S1x1024 .f32) (p : Fin 8)
    (o : ℕ) (ho : o = 128 * p.val)
    (inb : ∀ a : Fin 2, (![0, o] : Fin 2 → ℕ) a + S32x128.size a ≤ S32x1024.size a) (w : FVec F S32x128 .f32)
    (hw : w = updCols a s wv bv p) (x : S32x128.Idx) :
    w x = updVal a s wv bv ((Rect.unit (s := S32x1024) ![0, o] S32x128.size inb).emb x) := by
  subst hw; subst ho
  have hx : (x 1).val < 128 := (x 1).isLt
  have e0 : (((Rect.unit (s := S32x1024) ![0, 128 * p.val] S32x128.size inb).emb x) 0).val = (x 0).val := by
    show 0 + 1 * (x 0).val = (x 0).val; omega
  have e1 : (((Rect.unit (s := S32x1024) ![0, 128 * p.val] S32x128.size inb).emb x) 1).val = 128 * p.val + (x 1).val := by
    show 128 * p.val + 1 * (x 1).val = _; omega
  unfold updVal
  have hp : (⟨(((Rect.unit (s := S32x1024) ![0, 128 * p.val] S32x128.size inb).emb x) 1).val / 128, by rw [e1]; omega⟩ : Fin 8) = p := Fin.ext (by show _ / 128 = _; rw [e1]; omega)
  rw [hp]
  refine congrArg _ (funext fun a => Fin.ext ?_)
  match a with
  | ⟨0, _⟩ => exact e0.symm
  | ⟨1, _⟩ => show (x 1).val = _ % 128; rw [e1]; omega

section Runs

variable (c : Dev nD) (i : grid0.Coords)
  (arg1 : Memref sig .tc .vmem S32x1024 .f32) (harg1 : arg1.IsWhole)
  (arg2 : Memref sig .tc .vmem S1x512x1024 .f32) (harg2 : arg2.IsWhole)
  (arg3 : Memref sig .tc .vmem S1x512x1024 .f32) (harg3 : arg3.IsWhole)
  (arg4 : Memref sig .tc .vmem S1x512x1024 .f32) (harg4 : arg4.IsWhole)
  (arg5 : Memref sig .tc .vmem S1x512x1024 .f32) (harg5 : arg5.IsWhole)
  (arg6 : Memref sig .tc .vmem S1x512x1024 .f32) (harg6 : arg6.IsWhole)
  (arg7 : Memref sig .tc .vmem S1x512x1024 .f32) (harg7 : arg7.IsWhole)
  (arg8 : Memref sig .tc .vmem S1x512x1024 .f32) (harg8 : arg8.IsWhole)
  (arg9 : Memref sig .tc .vmem S1x512x1024 .f32) (harg9 : arg9.IsWhole)
  (arg10 : Memref sig .tc .vmem S1024x1024 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1x1024 .f32) (harg16 : arg16.IsWhole)
  (arg17 : Memref sig .tc .vmem S32x1024 .f32) (harg17 : arg17.IsWhole)
  (arg18 : Memref sig .tc .vmem S32x16x1024 .f32) (harg18 : arg18.IsWhole)
  (arg19 : Memref sig .tc .vmem S32x16x1024 .f32) (harg19 : arg19.IsWhole)
  (arg20 : Memref sig .tc .vmem S32x1x16 .f32) (harg20 : arg20.IsWhole)
  (arg21 : Memref sig .tc .vmem S32x1024 .f32) (harg21 : arg21.IsWhole)

include harg18 in
/-- The first point's key-side rows, read back from the scratch it just filled. -/
theorem keysA (x0 : Vec F S32x1024 .f32) (x9 : Vec F S1024x1024 .f32) (x10 : Vec F S1x1024 .f32) (x11 : Vec F S1024x1024 .f32) :
    runA.sl.v4 c i arg1 harg1 arg10 harg10 arg11 harg11 arg12 harg12 arg18 x0 x9 x10 x11 = batchRows (rowOf i) (uVal x0 x9 x10 x11) := by
  unfold runA.sl.v4
  rw [harg18.eq_unread (funext fun y => View.read_writes_apply_of_pieces arg18.view _ (uVal x0 x9 x10 x11) _
    (piecesU c arg1 harg1 arg10 harg10 arg11 harg11 arg12 harg12 x0 x9 x10 x11) y
    (coverU c arg1 harg1 arg10 harg10 arg11 harg11 arg12 harg12 x0 x9 x10 x11 y))]
  exact readAt_batch i harg18 _ _

set_option maxHeartbeats 4000000 in
/-- The exponential sums after the middle point. -/
theorem readSB (hc0 : ¬condFirst i) (hc1 : ¬condLast i) (x1 x2 x3 x4 x5 x6 x7 x8 : Vec F S1x512x1024 .f32) (xu : Vec F S32x16x1024 .f32) (xa : Vec F S32x16x1024 .f32) (xs : Vec F S32x1x16 .f32) :
    arg20.view.read (Elt F) (arg20.view.writes (Elt F) (harg20.unread xs) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 xu xa xs).2.1)
      = setRowS (rowOf i) (rowS (batchRows (rowOf i) xu) x1 x2 x3 x4) xs := by
  unfold runB
  refine (read_setRowS i harg20 xs _ _).trans (congrArg (fun w => setRowS (rowOf i) w xs) ?_)
  unfold rowS runB.sl.r runB.sl.r_1 runB.sl.r_2 runB.sl.r_3 runB.sl.r_4 runB.sl.r_5
  rw [readAt_batch]
  rw [readAt_whole harg2 x1, readAt_whole harg3 x2, readAt_whole harg4 x3, readAt_whole harg5 x4]

set_option maxHeartbeats 4000000 in
/-- The weighted value sums after the middle point. -/
theorem readAB (hc0 : ¬condFirst i) (hc1 : ¬condLast i) (x1 x2 x3 x4 x5 x6 x7 x8 : Vec F S1x512x1024 .f32) (xu : Vec F S32x16x1024 .f32) (xa : Vec F S32x16x1024 .f32) (xs : Vec F S32x1x16 .f32) :
    arg19.view.read (Elt F) (arg19.view.writes (Elt F) (harg19.unread xa) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 xu xa xs).1)
      = setRowA (rowOf i) (rowA (batchRows (rowOf i) xu) x1 x2 x3 x4 x5 x6 x7 x8) xa := by
  unfold runB
  refine (read_setRowA i harg19 xa _ _).trans (congrArg (fun w => setRowA (rowOf i) w xa) ?_)
  unfold rowA runB.sl.r_6 runB.sl.r_7 runB.sl.r_8 runB.sl.r_9 runB.sl.r runB.sl.r_1 runB.sl.r_2 runB.sl.r_3 runB.sl.r_4 runB.sl.r_5 runB.sl.cst_41
  rw [readAt_batch]
  rw [readAt_whole harg2 x1, readAt_whole harg3 x2, readAt_whole harg4 x3, readAt_whole harg5 x4, readAt_whole harg6 x5, readAt_whole harg7 x6, readAt_whole harg8 x7, readAt_whole harg9 x8 inb_S1x512x1024_S1x512x1024_0_0_0]

set_option maxHeartbeats 4000000 in
/-- The exponential sums after the first point. -/
theorem readSA (hc0 : condFirst i) (hc1 : ¬condLast i) (x0 : Vec F S32x1024 .f32) (x1 x2 x3 x4 x5 x6 x7 x8 : Vec F S1x512x1024 .f32) (x9 : Vec F S1024x1024 .f32) (x10 : Vec F S1x1024 .f32) (x11 : Vec F S1024x1024 .f32) (xa : Vec F S32x16x1024 .f32) (xs : Vec F S32x1x16 .f32) :
    arg20.view.read (Elt F) (arg20.view.writes (Elt F) (harg20.unread xs) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xa xs).2.2.1)
      = setRowS (rowOf i) (rowS (batchRows (rowOf i) (uVal x0 x9 x10 x11)) x1 x2 x3 x4) xs := by
  unfold runA
  refine (read_setRowS i harg20 xs _ _).trans (congrArg (fun w => setRowS (rowOf i) w xs) ?_)
  unfold rowS runA.sl.r_13 runA.sl.r_14 runA.sl.r_15 runA.sl.r_16 runA.sl.r_17 runA.sl.r_18
  rw [keysA (harg18 := harg18)]
  rw [readAt_whole harg2 x1, readAt_whole harg3 x2, readAt_whole harg4 x3, readAt_whole harg5 x4]

set_option maxHeartbeats 4000000 in
/-- The weighted value sums after the first point. -/
theorem readAA (hc0 : condFirst i) (hc1 : ¬condLast i) (x0 : Vec F S32x1024 .f32) (x1 x2 x3 x4 x5 x6 x7 x8 : Vec F S1x512x1024 .f32) (x9 : Vec F S1024x1024 .f32) (x10 : Vec F S1x1024 .f32) (x11 : Vec F S1024x1024 .f32) (xa : Vec F S32x16x1024 .f32) (xs : Vec F S32x1x16 .f32) :
    arg19.view.read (Elt F) (arg19.view.writes (Elt F) (harg19.unread xa) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xa xs).2.1)
      = setRowA (rowOf i) (rowA (batchRows (rowOf i) (uVal x0 x9 x10 x11)) x1 x2 x3 x4 x5 x6 x7 x8) xa := by
  unfold runA
  refine (read_setRowA i harg19 xa _ _).trans (congrArg (fun w => setRowA (rowOf i) w xa) ?_)
  unfold rowA runA.sl.r_19 runA.sl.r_20 runA.sl.r_21 runA.sl.r_22 runA.sl.r_13 runA.sl.r_14 runA.sl.r_15 runA.sl.r_16 runA.sl.r_17 runA.sl.r_18 runA.sl.cst_41
  rw [keysA (harg18 := harg18)]
  rw [readAt_whole harg2 x1, readAt_whole harg3 x2, readAt_whole harg4 x3, readAt_whole harg5 x4, readAt_whole harg6 x5, readAt_whole harg7 x6, readAt_whole harg8 x7, readAt_whole harg9 x8 inb_S1x512x1024_S1x512x1024_0_0_0]

set_option maxHeartbeats 4000000 in
/-- The exponential sums after the last point. -/
theorem readSC (hc0 : ¬condFirst i) (hc1 : condLast i) (x1 x2 x3 x4 x5 x6 x7 x8 : Vec F S1x512x1024 .f32) (x12 : Vec F S1024x1024 .f32) (x13 : Vec F S1x1024 .f32) (x14 : Vec F S1024x1024 .f32) (x15 : Vec F S1x1024 .f32) (xu : Vec F S32x16x1024 .f32) (xa : Vec F S32x16x1024 .f32) (xs : Vec F S32x1x16 .f32) :
    arg20.view.read (Elt F) (arg20.view.writes (Elt F) (harg20.unread xs) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 x12 x13 x14 x15 xu xa xs).2.2.2.1)
      = setRowS (rowOf i) (rowS (batchRows (rowOf i) xu) x1 x2 x3 x4) xs := by
  unfold runC runC.sl.H20_1
  refine (read_setRowS i harg20 xs _ _).trans (congrArg (fun w => setRowS (rowOf i) w xs) ?_)
  unfold rowS runC.sl.r runC.sl.r_1 runC.sl.r_2 runC.sl.r_3 runC.sl.r_4 runC.sl.r_5
  rw [readAt_batch]
  rw [readAt_whole harg2 x1, readAt_whole harg3 x2, readAt_whole harg4 x3, readAt_whole harg5 x4]

set_option maxHeartbeats 4000000 in
/-- The weighted value sums after the last point. -/
theorem readAC (hc0 : ¬condFirst i) (hc1 : condLast i) (x1 x2 x3 x4 x5 x6 x7 x8 : Vec F S1x512x1024 .f32) (x12 : Vec F S1024x1024 .f32) (x13 : Vec F S1x1024 .f32) (x14 : Vec F S1024x1024 .f32) (x15 : Vec F S1x1024 .f32) (xu : Vec F S32x16x1024 .f32) (xa : Vec F S32x16x1024 .f32) (xs : Vec F S32x1x16 .f32) :
    arg19.view.read (Elt F) (arg19.view.writes (Elt F) (harg19.unread xa) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 x12 x13 x14 x15 xu xa xs).2.2.1)
      = setRowA (rowOf i) (rowA (batchRows (rowOf i) xu) x1 x2 x3 x4 x5 x6 x7 x8) xa := by
  unfold runC runC.sl.H19_1
  refine (read_setRowA i harg19 xa _ _).trans (congrArg (fun w => setRowA (rowOf i) w xa) ?_)
  unfold rowA runC.sl.r_6 runC.sl.r_7 runC.sl.r_8 runC.sl.r_9 runC.sl.r runC.sl.r_1 runC.sl.r_2 runC.sl.r_3 runC.sl.r_4 runC.sl.r_5 runC.sl.cst_41
  rw [readAt_batch]
  rw [readAt_whole harg2 x1, readAt_whole harg3 x2, readAt_whole harg4 x3, readAt_whole harg5 x4, readAt_whole harg6 x5, readAt_whole harg7 x6, readAt_whole harg8 x7, readAt_whole harg9 x8 inb_S1x512x1024_S1x512x1024_0_0_0]

/-- A slice of head `h`'s reciprocal sums. -/
theorem slice_head (r : FVec F S32x1x16 .f32) (h : Fin 16) (hh : S32x1x16.Slices ![0, 0, h.val] S32x1x1) :
    extractStridedSlice S32x1x1 ![0, 0, h.val] r hh
      = fun j : S32x1x1.Idx => r (ix3 (j 0) 0 ⟨h.val + (j 2).val, by have := (j 2).isLt; have : (j 2).val < 1 := this; omega⟩) := by
  funext j
  refine congrArg r (funext fun a => Fin.ext ?_)
  have h1 : (j 1).val < 1 := (j 1).isLt
  match a with
  | ⟨0, _⟩ => show 0 + (j 0).val = (j 0).val; omega
  | ⟨1, _⟩ => show 0 + (j 1).val = 0; omega
  | ⟨2, _⟩ => rfl

set_option maxHeartbeats 8000000 in
/-- Every piece the last point stores into the update scratch holds entries of the update of the completed sums. -/
theorem piecesD (A : Vec F S32x16x1024 .f32) (S : Vec F S32x1x16 .f32) (x1 x2 x3 x4 x5 x6 x7 x8 : Vec F S1x512x1024 .f32) (x12 : Vec F S1024x1024 .f32) (x13 : Vec F S1x1024 .f32) (xu : Vec F S32x16x1024 .f32) (xa : Vec F S32x16x1024 .f32) (xs : Vec F S32x1x16 .f32)
    (hA : arg19.view.writes (Elt F) (harg19.unread xa) (runC.sl.H19_1 c i arg2 harg2 arg3 harg3 arg4 harg4 arg5 harg5 arg6 harg6 arg7 harg7 arg8 harg8 arg9 harg9
              arg18 harg18 x1 x2 x3 x4 x5 x6 x7 x8 xu) = harg19.unread A)
    (hS : arg20.view.writes (Elt F) (harg20.unread xs) (runC.sl.H20_1 c i arg2 harg2 arg3 harg3 arg4 harg4 arg5 harg5 arg18 harg18 x1 x2 x3 x4 xu) = harg20.unread S)
    (p : View.Piece (Elt F) S32x1024 .f32) (hp : p ∈ runC.sl.H21_8 c i arg2 harg2 arg3 harg3 arg4 harg4 arg5 harg5 arg6 harg6 arg7 harg7 arg8 harg8 arg9 harg9 arg13 harg13 arg14 harg14 arg18 harg18 arg19 harg19 arg20 harg20 x1 x2 x3 x4 x5 x6 x7 x8 x12 x13 xu xa xs)
    (x : p.1.shape.Idx) : p.2 x = updVal A S x12 x13 (p.1.emb x) := by
  revert p
  unfold runC.sl.H21_8
  simp only [List.forall_mem_cons, runC.sl.r_10, runC.sl.r_11, runC.sl.r_12, runC.sl.r_13, runC.sl.r_14, runC.sl.r_15, runC.sl.r_16, runC.sl.r_17, runC.sl.r_18, runC.sl.r_19, runC.sl.r_20, runC.sl.v85, runC.sl.v93, runC.sl.v99, runC.sl.v122, runC.sl.v128, runC.sl.v151, runC.sl.v157, runC.sl.v180, runC.sl.v186, runC.sl.v209, runC.sl.v215, runC.sl.v238, runC.sl.v244, runC.sl.v267, runC.sl.v273, runC.sl.v296, runC.sl.v302]
  rw [hA, hS, readAt_whole harg20 S,
    readAt_head harg19 A 0 (by omega), readAt_head harg19 A 1 (by omega), readAt_head harg19 A 2 (by omega), readAt_head harg19 A 3 (by omega), readAt_head harg19 A 4 (by omega), readAt_head harg19 A 5 (by omega), readAt_head harg19 A 6 (by omega), readAt_head harg19 A 7 (by omega), readAt_head harg19 A 8 (by omega), readAt_head harg19 A 9 (by omega), readAt_head harg19 A 10 (by omega), readAt_head harg19 A 11 (by omega), readAt_head harg19 A 12 (by omega), readAt_head harg19 A 13 (by omega), readAt_head harg19 A 14 (by omega), readAt_head harg19 A 15 (by omega),
    readAt_cols (F := F) harg13 x12 0 (by omega), readAt_cols (F := F) harg13 x12 128 (by omega), readAt_cols (F := F) harg13 x12 256 (by omega), readAt_cols (F := F) harg13 x12 384 (by omega), readAt_cols (F := F) harg13 x12 512 (by omega), readAt_cols (F := F) harg13 x12 640 (by omega), readAt_cols (F := F) harg13 x12 768 (by omega), readAt_cols (F := F) harg13 x12 896 (by omega),
    readAt_cols (F := F) harg14 x13 0 (by omega), readAt_cols (F := F) harg14 x13 128 (by omega), readAt_cols (F := F) harg14 x13 256 (by omega), readAt_cols (F := F) harg14 x13 384 (by omega), readAt_cols (F := F) harg14 x13 512 (by omega), readAt_cols (F := F) harg14 x13 640 (by omega), readAt_cols (F := F) harg14 x13 768 (by omega), readAt_cols (F := F) harg14 x13 896 (by omega)]
  refine ⟨fun x => updCols_eq A S x12 x13 7 _ rfl _ _ ?_ x, fun x => updCols_eq A S x12 x13 6 _ rfl _ _ ?_ x, fun x => updCols_eq A S x12 x13 5 _ rfl _ _ ?_ x, fun x => updCols_eq A S x12 x13 4 _ rfl _ _ ?_ x, fun x => updCols_eq A S x12 x13 3 _ rfl _ _ ?_ x, fun x => updCols_eq A S x12 x13 2 _ rfl _ _ ?_ x, fun x => updCols_eq A S x12 x13 1 _ rfl _ _ ?_ x, fun x => updCols_eq A S x12 x13 0 _ rfl _ _ ?_ x, ?_⟩
  case refine_9 => intro p hp; exact absurd hp List.not_mem_nil
  all_goals
    unfold updCols headMean
    rw [← slice_head (k0_pay32 S) _ (by decide), ← slice_head (k0_pay32 S) _ (by decide)]
    rfl

/-- The pieces cover the update scratch. -/
theorem coverD (x1 x2 x3 x4 x5 x6 x7 x8 : Vec F S1x512x1024 .f32) (x12 : Vec F S1024x1024 .f32) (x13 : Vec F S1x1024 .f32) (xu : Vec F S32x16x1024 .f32) (xa : Vec F S32x16x1024 .f32) (xs : Vec F S32x1x16 .f32) (y : S32x1024.Idx) : ∃ p ∈ runC.sl.H21_8 c i arg2 harg2 arg3 harg3 arg4 harg4 arg5 harg5 arg6 harg6 arg7 harg7 arg8 harg8 arg9 harg9 arg13 harg13 arg14 harg14 arg18 harg18 arg19 harg19 arg20 harg20 x1 x2 x3 x4 x5 x6 x7 x8 x12 x13 xu xa xs, y ∈ p.1.set := by
  unfold runC.sl.H21_8
  exact View.cover_of_tiledL (s := S32x1024) _ S32x128.size (by sl_kernel_rfl) y

set_option maxHeartbeats 8000000 in
/-- The output block the last point stores. -/
theorem outC (hc0 : ¬condFirst i) (hc1 : condLast i) (x1 x2 x3 x4 x5 x6 x7 x8 : Vec F S1x512x1024 .f32) (x12 : Vec F S1024x1024 .f32) (x13 : Vec F S1x1024 .f32) (x14 : Vec F S1024x1024 .f32) (x15 : Vec F S1x1024 .f32) (xu : Vec F S32x16x1024 .f32) (xa : Vec F S32x16x1024 .f32) (xs : Vec F S32x1x16 .f32) (f : arg17.view.ty.Contents (Elt F)) :
    arg17.view.read (Elt F) (arg17.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 x12 x13 x14 x15 xu xa xs).1)
      = outVal (setRowA (rowOf i) (rowA (batchRows (rowOf i) xu) x1 x2 x3 x4 x5 x6 x7 x8) xa) (setRowS (rowOf i) (rowS (batchRows (rowOf i) xu) x1 x2 x3 x4) xs) x12 x13 x14 x15 := by
  have hA := harg19.eq_unread (readAC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 x12 x13 x14 x15 xu xa xs)
  have hS := harg20.eq_unread (readSC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x1 x2 x3 x4 x5 x6 x7 x8 x12 x13 x14 x15 xu xa xs)
  have e1 : runC.sl.v325 c i arg2 harg2 arg3 harg3 arg4 harg4 arg5 harg5 arg6 harg6 arg7 harg7 arg8 harg8 arg9 harg9
                arg13 harg13 arg14 harg14 arg18 harg18 arg19 harg19 arg20 harg20 arg21 x1 x2 x3 x4 x5 x6 x7 x8 x12 x13
                xu xa xs = updVal (setRowA (rowOf i) (rowA (batchRows (rowOf i) xu) x1 x2 x3 x4 x5 x6 x7 x8) xa) (setRowS (rowOf i) (rowS (batchRows (rowOf i) xu) x1 x2 x3 x4) xs) x12 x13 := by
    unfold runC.sl.v325
    refine (View.readAt_full arg21.view _ _).trans (funext fun y => ?_)
    refine View.read_writes_apply_of_pieces arg21.view _ _ _ (piecesD c i arg2 harg2 arg3 harg3 arg4 harg4 arg5 harg5 arg6 harg6 arg7 harg7 arg8 harg8 arg9 harg9 arg13 harg13
      arg14 harg14 arg18 harg18 arg19 harg19 arg20 harg20 _ _ x1 x2 x3 x4 x5 x6 x7 x8 x12 x13 xu xa xs hA hS) y ?_
    exact coverD c i arg2 harg2 arg3 harg3 arg4 harg4 arg5 harg5 arg6 harg6 arg7 harg7 arg8 harg8 arg9 harg9 arg13 harg13
      arg14 harg14 arg18 harg18 arg19 harg19 arg20 harg20 x1 x2 x3 x4 x5 x6 x7 x8 x12 x13 xu xa xs y
  unfold runC
  refine (funext fun y => View.read_writes_cons_unit_of_mem (Val := Elt F) (e := .f32) arg17.view f (off := ![0, 0]) (size := ![32, 1024]) inb_S32x1024_S32x1024_0_0 _ [] y y rfl fun a => ?_).trans ?_
  · match a with
    | ⟨0, _⟩ => exact (Nat.zero_add _).symm
    | ⟨1, _⟩ => exact (Nat.zero_add _).symm
  · rw [e1, readAt_whole harg15 x14 inb_S1024x1024_S1024x1024_0_0, readAt_whole harg16 x15 inb_S1x1024_S1x1024_0_0]
    rfl

end Runs

end Cert.KernelIdeal.Hand

end
-- ==== Proof.KI.Frame.lean ====
/- The launch: the scratches' contents between points, the body at every point, and what every reachable final state
   holds: every argument as launched, and the output array. -/
module

public import proofs.«01_k».proof.Proof.KI.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid point of batch row `b`. -/
def tAt (b : Fin 32) : Fin cfg0.N := ⟨b.val, Nat.lt_of_lt_of_eq b.isLt N_0.symm⟩

/-- The key-side rows the first point leaves. -/
def UV (c : Dev nD) : Vec F S32x16x1024 .f32 := uVal (iblk m c 0 (tAt 0)) (iblk m c 9 (tAt 0)) (iblk m c 10 (tAt 0)) (iblk m c 11 (tAt 0))

/-- The weighted value sums once every point has run. -/
def AV (c : Dev nD) : Vec F S32x16x1024 .f32 := fun y =>
  rowA (batchRows (y 0) (UV m c)) (iblk m c 1 (tAt (y 0))) (iblk m c 2 (tAt (y 0))) (iblk m c 3 (tAt (y 0))) (iblk m c 4 (tAt (y 0))) (iblk m c 5 (tAt (y 0))) (iblk m c 6 (tAt (y 0))) (iblk m c 7 (tAt (y 0))) (iblk m c 8 (tAt (y 0))) (ix3 0 (y 1) (y 2))

/-- The exponential sums once every point has run. -/
def SV (c : Dev nD) : Vec F S32x1x16 .f32 := fun y =>
  rowS (batchRows (y 0) (UV m c)) (iblk m c 1 (tAt (y 0))) (iblk m c 2 (tAt (y 0))) (iblk m c 3 (tAt (y 0))) (iblk m c 4 (tAt (y 0))) (ix3 0 0 (y 2))

/-- The output block. -/
def outG (c : Dev nD) (t : Fin cfg0.N) : Vec F S32x1024 .f32 := outVal (AV m c) (SV m c) (iblk m c 12 t) (iblk m c 13 t) (iblk m c 14 t) (iblk m c 15 t)

/-- Point `t`'s row extends the rows of the weighted value sums known before it. -/
theorem stepA (c : Dev nD) (t : Fin cfg0.N) (d : Vec F S32x16x1024 .f32) (hd : ∀ y, (y 0).val < t.val → d y = AV m c y)
    (y : S32x16x1024.Idx) (hy : (y 0).val < t.val + 1) :
    setRowA (rowOf (grid0.coords t)) (rowA (batchRows (rowOf (grid0.coords t)) (UV m c)) (iblk m c 1 t) (iblk m c 2 t) (iblk m c 3 t) (iblk m c 4 t) (iblk m c 5 t) (iblk m c 6 t) (iblk m c 7 t) (iblk m c 8 t)) d y = AV m c y := by
  have hc := coords_val t
  unfold setRowA
  split
  · next h =>
    obtain rfl : t = tAt (y 0) := Fin.ext (hc.symm.trans h.symm)
    rw [show rowOf (grid0.coords (tAt (y 0))) = y 0 from Fin.ext h.symm]
    rfl
  · next h =>
    have h' : (y 0).val ≠ (grid0.coords t 0).val := h
    exact hd y (by omega)

/-- The same of the exponential sums. -/
theorem stepS (c : Dev nD) (t : Fin cfg0.N) (d : Vec F S32x1x16 .f32) (hd : ∀ y, (y 0).val < t.val → d y = SV m c y)
    (y : S32x1x16.Idx) (hy : (y 0).val < t.val + 1) :
    setRowS (rowOf (grid0.coords t)) (rowS (batchRows (rowOf (grid0.coords t)) (UV m c)) (iblk m c 1 t) (iblk m c 2 t) (iblk m c 3 t) (iblk m c 4 t)) d y = SV m c y := by
  have hc := coords_val t
  unfold setRowS
  split
  · next h =>
    obtain rfl : t = tAt (y 0) := Fin.ext (hc.symm.trans h.symm)
    rw [show rowOf (grid0.coords (tAt (y 0))) = y 0 from Fin.ext h.symm]
    rfl
  · next h =>
    have h' : (y 0).val ≠ (grid0.coords t 0).val := h
    exact hd y (by omega)

/-- The scratches before point `n`: the key-side rows after the first point, the rows of the points before `n` of the two
    carried sums, and the rest at anything. -/
def PhiS (c : Dev nD) (n : ℕ) : sProp 𝕄 :=
  iprop(iprop((∃ d, ⌜n ≠ 0 → d = UV m c⌝ ∗ owns (c : Thread nD τ) scU fullShare d)
      ∗ (∃ d, ⌜∀ y, (y 0).val < n → d y = AV m c y⌝ ∗ owns (c : Thread nD τ) scA fullShare d)
      ∗ (∃ d, ⌜∀ y, (y 0).val < n → d y = SV m c y⌝ ∗ owns (c : Thread nD τ) scS fullShare d)
      ∗ (∃ d, owns (c : Thread nD τ) scD fullShare d))
    ∗ (∃ r, prngReg c r))

/-- The staged block of window 0 at a step. -/
abbrev ms0_0 (t : Fin cfg0.N) : Memref sig .tc .vmem S32x1024 .f32 := win0_0.stage (cfg0.slots t 0)
/-- The staged block of window 1 at a step. -/
abbrev ms0_1 (t : Fin cfg0.N) : Memref sig .tc .vmem S1x512x1024 .f32 := win0_1.stage (cfg0.slots t 1)
/-- The staged block of window 2 at a step. -/
abbrev ms0_2 (t : Fin cfg0.N) : Memref sig .tc .vmem S1x512x1024 .f32 := win0_2.stage (cfg0.slots t 2)
/-- The staged block of window 3 at a step. -/
abbrev ms0_3 (t : Fin cfg0.N) : Memref sig .tc .vmem S1x512x1024 .f32 := win0_3.stage (cfg0.slots t 3)
/-- The staged block of window 4 at a step. -/
abbrev ms0_4 (t : Fin cfg0.N) : Memref sig .tc .vmem S1x512x1024 .f32 := win0_4.stage (cfg0.slots t 4)
/-- The staged block of window 5 at a step. -/
abbrev ms0_5 (t : Fin cfg0.N) : Memref sig .tc .vmem S1x512x1024 .f32 := win0_5.stage (cfg0.slots t 5)
/-- The staged block of window 6 at a step. -/
abbrev ms0_6 (t : Fin cfg0.N) : Memref sig .tc .vmem S1x512x1024 .f32 := win0_6.stage (cfg0.slots t 6)
/-- The staged block of window 7 at a step. -/
abbrev ms0_7 (t : Fin cfg0.N) : Memref sig .tc .vmem S1x512x1024 .f32 := win0_7.stage (cfg0.slots t 7)
/-- The staged block of window 8 at a step. -/
abbrev ms0_8 (t : Fin cfg0.N) : Memref sig .tc .vmem S1x512x1024 .f32 := win0_8.stage (cfg0.slots t 8)
/-- The staged block of window 9 at a step. -/
abbrev ms0_9 (t : Fin cfg0.N) : Memref sig .tc .vmem S1024x1024 .f32 := win0_9.stage (cfg0.slots t 9)
/-- The staged block of window 10 at a step. -/
abbrev ms0_10 (t : Fin cfg0.N) : Memref sig .tc .vmem S1x1024 .f32 := win0_10.stage (cfg0.slots t 10)
/-- The staged block of window 11 at a step. -/
abbrev ms0_11 (t : Fin cfg0.N) : Memref sig .tc .vmem S1024x1024 .f32 := win0_11.stage (cfg0.slots t 11)
/-- The staged block of window 12 at a step. -/
abbrev ms0_12 (t : Fin cfg0.N) : Memref sig .tc .vmem S1024x1024 .f32 := win0_12.stage (cfg0.slots t 12)
/-- The staged block of window 13 at a step. -/
abbrev ms0_13 (t : Fin cfg0.N) : Memref sig .tc .vmem S1x1024 .f32 := win0_13.stage (cfg0.slots t 13)
/-- The staged block of window 14 at a step. -/
abbrev ms0_14 (t : Fin cfg0.N) : Memref sig .tc .vmem S1024x1024 .f32 := win0_14.stage (cfg0.slots t 14)
/-- The staged block of window 15 at a step. -/
abbrev ms0_15 (t : Fin cfg0.N) : Memref sig .tc .vmem S1x1024 .f32 := win0_15.stage (cfg0.slots t 15)
/-- The staged block of window 16 at a step. -/
abbrev ms0_16 (t : Fin cfg0.N) : Memref sig .tc .vmem S32x1024 .f32 := win0_16.stage (cfg0.slots t 16)

/-- What the body leaves at every point: an input its block, the output block what the last point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outG m c t
    | ⟨n + 17, h⟩ => absurd (show n + 17 < 17 from h) (Nat.not_lt.mpr (Nat.le_add_left 17 n))
  Φ t := PhiS m c t.val
  q w := Pipeline.shareOf spec0 w
  owed _ := 0

/-- A window of the call stands over the array the host left for it. -/
theorem A_eq (c : Dev nD) (w : Fin cfg0.W) : (dats m 0 c).A w = V m c (Pipeline.arrRef spec0 w) := by dsimp only [dats]

/-- After a step, input window 0 still holds its block. -/
theorem after0_0 (c : Dev nD) (t : Fin cfg0.N) : (dats m 0 c).after 0 t = iblk m c 0 t := by dsimp only [dats]
/-- After a step, input window 1 still holds its block. -/
theorem after0_1 (c : Dev nD) (t : Fin cfg0.N) : (dats m 0 c).after 1 t = iblk m c 1 t := by dsimp only [dats]
/-- After a step, input window 2 still holds its block. -/
theorem after0_2 (c : Dev nD) (t : Fin cfg0.N) : (dats m 0 c).after 2 t = iblk m c 2 t := by dsimp only [dats]
/-- After a step, input window 3 still holds its block. -/
theorem after0_3 (c : Dev nD) (t : Fin cfg0.N) : (dats m 0 c).after 3 t = iblk m c 3 t := by dsimp only [dats]
/-- After a step, input window 4 still holds its block. -/
theorem after0_4 (c : Dev nD) (t : Fin cfg0.N) : (dats m 0 c).after 4 t = iblk m c 4 t := by dsimp only [dats]
/-- After a step, input window 5 still holds its block. -/
theorem after0_5 (c : Dev nD) (t : Fin cfg0.N) : (dats m 0 c).after 5 t = iblk m c 5 t := by dsimp only [dats]
/-- After a step, input window 6 still holds its block. -/
theorem after0_6 (c : Dev nD) (t : Fin cfg0.N) : (dats m 0 c).after 6 t = iblk m c 6 t := by dsimp only [dats]
/-- After a step, input window 7 still holds its block. -/
theorem after0_7 (c : Dev nD) (t : Fin cfg0.N) : (dats m 0 c).after 7 t = iblk m c 7 t := by dsimp only [dats]
/-- After a step, input window 8 still holds its block. -/
theorem after0_8 (c : Dev nD) (t : Fin cfg0.N) : (dats m 0 c).after 8 t = iblk m c 8 t := by dsimp only [dats]
/-- After a step, input window 9 still holds its block. -/
theorem after0_9 (c : Dev nD) (t : Fin cfg0.N) : (dats m 0 c).after 9 t = iblk m c 9 t := by dsimp only [dats]
/-- After a step, input window 10 still holds its block. -/
theorem after0_10 (c : Dev nD) (t : Fin cfg0.N) : (dats m 0 c).after 10 t = iblk m c 10 t := by dsimp only [dats]
/-- After a step, input window 11 still holds its block. -/
theorem after0_11 (c : Dev nD) (t : Fin cfg0.N) : (dats m 0 c).after 11 t = iblk m c 11 t := by dsimp only [dats]
/-- After a step, input window 12 still holds its block. -/
theorem after0_12 (c : Dev nD) (t : Fin cfg0.N) : (dats m 0 c).after 12 t = iblk m c 12 t := by dsimp only [dats]
/-- After a step, input window 13 still holds its block. -/
theorem after0_13 (c : Dev nD) (t : Fin cfg0.N) : (dats m 0 c).after 13 t = iblk m c 13 t := by dsimp only [dats]
/-- After a step, input window 14 still holds its block. -/
theorem after0_14 (c : Dev nD) (t : Fin cfg0.N) : (dats m 0 c).after 14 t = iblk m c 14 t := by dsimp only [dats]
/-- After a step, input window 15 still holds its block. -/
theorem after0_15 (c : Dev nD) (t : Fin cfg0.N) : (dats m 0 c).after 15 t = iblk m c 15 t := by dsimp only [dats]
/-- After a step, the result window holds the output block of that step. -/
theorem after0_16 (c : Dev nD) (t : Fin cfg0.N) : (dats m 0 c).after 16 t = outG m c t := by dsimp only [dats]

/-- Before a step, input window 0 holds its block. -/
theorem before0_0 (c : Dev nD) (t : Fin cfg0.N) (d) : (dats m 0 c).before 0 t d = iblk m c 0 t := before0_0_of m (dats m 0 c) (A_eq m c 0) (after0_0 m c) t d
/-- Before a step, input window 1 holds its block. -/
theorem before0_1 (c : Dev nD) (t : Fin cfg0.N) (d) : (dats m 0 c).before 1 t d = iblk m c 1 t := before0_1_of m (dats m 0 c) (A_eq m c 1) (after0_1 m c) t d
/-- Before a step, input window 2 holds its block. -/
theorem before0_2 (c : Dev nD) (t : Fin cfg0.N) (d) : (dats m 0 c).before 2 t d = iblk m c 2 t := before0_2_of m (dats m 0 c) (A_eq m c 2) (after0_2 m c) t d
/-- Before a step, input window 3 holds its block. -/
theorem before0_3 (c : Dev nD) (t : Fin cfg0.N) (d) : (dats m 0 c).before 3 t d = iblk m c 3 t := before0_3_of m (dats m 0 c) (A_eq m c 3) (after0_3 m c) t d
/-- Before a step, input window 4 holds its block. -/
theorem before0_4 (c : Dev nD) (t : Fin cfg0.N) (d) : (dats m 0 c).before 4 t d = iblk m c 4 t := before0_4_of m (dats m 0 c) (A_eq m c 4) (after0_4 m c) t d
/-- Before a step, input window 5 holds its block. -/
theorem before0_5 (c : Dev nD) (t : Fin cfg0.N) (d) : (dats m 0 c).before 5 t d = iblk m c 5 t := before0_5_of m (dats m 0 c) (A_eq m c 5) (after0_5 m c) t d
/-- Before a step, input window 6 holds its block. -/
theorem before0_6 (c : Dev nD) (t : Fin cfg0.N) (d) : (dats m 0 c).before 6 t d = iblk m c 6 t := before0_6_of m (dats m 0 c) (A_eq m c 6) (after0_6 m c) t d
/-- Before a step, input window 7 holds its block. -/
theorem before0_7 (c : Dev nD) (t : Fin cfg0.N) (d) : (dats m 0 c).before 7 t d = iblk m c 7 t := before0_7_of m (dats m 0 c) (A_eq m c 7) (after0_7 m c) t d
/-- Before a step, input window 8 holds its block. -/
theorem before0_8 (c : Dev nD) (t : Fin cfg0.N) (d) : (dats m 0 c).before 8 t d = iblk m c 8 t := before0_8_of m (dats m 0 c) (A_eq m c 8) (after0_8 m c) t d
/-- Before a step, input window 9 holds its block. -/
theorem before0_9 (c : Dev nD) (t : Fin cfg0.N) (d) : (dats m 0 c).before 9 t d = iblk m c 9 t := before0_9_of m (dats m 0 c) (A_eq m c 9) (after0_9 m c) t d
/-- Before a step, input window 10 holds its block. -/
theorem before0_10 (c : Dev nD) (t : Fin cfg0.N) (d) : (dats m 0 c).before 10 t d = iblk m c 10 t := before0_10_of m (dats m 0 c) (A_eq m c 10) (after0_10 m c) t d
/-- Before a step, input window 11 holds its block. -/
theorem before0_11 (c : Dev nD) (t : Fin cfg0.N) (d) : (dats m 0 c).before 11 t d = iblk m c 11 t := before0_11_of m (dats m 0 c) (A_eq m c 11) (after0_11 m c) t d
/-- Before a step, input window 12 holds its block. -/
theorem before0_12 (c : Dev nD) (t : Fin cfg0.N) (d) : (dats m 0 c).before 12 t d = iblk m c 12 t := before0_12_of m (dats m 0 c) (A_eq m c 12) (after0_12 m c) t d
/-- Before a step, input window 13 holds its block. -/
theorem before0_13 (c : Dev nD) (t : Fin cfg0.N) (d) : (dats m 0 c).before 13 t d = iblk m c 13 t := before0_13_of m (dats m 0 c) (A_eq m c 13) (after0_13 m c) t d
/-- Before a step, input window 14 holds its block. -/
theorem before0_14 (c : Dev nD) (t : Fin cfg0.N) (d) : (dats m 0 c).before 14 t d = iblk m c 14 t := before0_14_of m (dats m 0 c) (A_eq m c 14) (after0_14 m c) t d
/-- Before a step, input window 15 holds its block. -/
theorem before0_15 (c : Dev nD) (t : Fin cfg0.N) (d) : (dats m 0 c).before 15 t d = iblk m c 15 t := before0_15_of m (dats m 0 c) (A_eq m c 15) (after0_15 m c) t d

/-- An input's block is left in place at every point. -/
theorem leaves_in (c : Dev nD) (w : Fin cfg0.W) (hw : w ≠ 16) (t : Fin cfg0.N) :
    (dats m 0 c).leavesExact w t = owns (c : Thread nD τ) ((cfg0.win w).stage (cfg0.slots t w)) fullShare ((dats m 0 c).after w t) := by
  unfold Dat.leavesExact; rw [live_in w hw t]

/-- The body's precondition at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- The body's postcondition at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 4800000 in
/-- The body at a middle point. -/
theorem sound_bodyB (c : Dev nD) (t : Fin cfg0.N) (hz : ¬t.val = 0) (hl : ¬t.val = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from leaves_in m c 0 (by decide) t, after0_0]
  rw [show (dats m 0 c).leavesExact 1 t = owns (c : Thread nD τ) (ms0_1 t) fullShare ((dats m 0 c).after 1 t) from leaves_in m c 1 (by decide) t, after0_1]
  rw [show (dats m 0 c).leavesExact 2 t = owns (c : Thread nD τ) (ms0_2 t) fullShare ((dats m 0 c).after 2 t) from leaves_in m c 2 (by decide) t, after0_2]
  rw [show (dats m 0 c).leavesExact 3 t = owns (c : Thread nD τ) (ms0_3 t) fullShare ((dats m 0 c).after 3 t) from leaves_in m c 3 (by decide) t, after0_3]
  rw [show (dats m 0 c).leavesExact 4 t = owns (c : Thread nD τ) (ms0_4 t) fullShare ((dats m 0 c).after 4 t) from leaves_in m c 4 (by decide) t, after0_4]
  rw [show (dats m 0 c).leavesExact 5 t = owns (c : Thread nD τ) (ms0_5 t) fullShare ((dats m 0 c).after 5 t) from leaves_in m c 5 (by decide) t, after0_5]
  rw [show (dats m 0 c).leavesExact 6 t = owns (c : Thread nD τ) (ms0_6 t) fullShare ((dats m 0 c).after 6 t) from leaves_in m c 6 (by decide) t, after0_6]
  rw [show (dats m 0 c).leavesExact 7 t = owns (c : Thread nD τ) (ms0_7 t) fullShare ((dats m 0 c).after 7 t) from leaves_in m c 7 (by decide) t, after0_7]
  rw [show (dats m 0 c).leavesExact 8 t = owns (c : Thread nD τ) (ms0_8 t) fullShare ((dats m 0 c).after 8 t) from leaves_in m c 8 (by decide) t, after0_8]
  rw [show (dats m 0 c).leavesExact 9 t = owns (c : Thread nD τ) (ms0_9 t) fullShare ((dats m 0 c).after 9 t) from leaves_in m c 9 (by decide) t, after0_9]
  rw [show (dats m 0 c).leavesExact 10 t = owns (c : Thread nD τ) (ms0_10 t) fullShare ((dats m 0 c).after 10 t) from leaves_in m c 10 (by decide) t, after0_10]
  rw [show (dats m 0 c).leavesExact 11 t = owns (c : Thread nD τ) (ms0_11 t) fullShare ((dats m 0 c).after 11 t) from leaves_in m c 11 (by decide) t, after0_11]
  rw [show (dats m 0 c).leavesExact 12 t = owns (c : Thread nD τ) (ms0_12 t) fullShare ((dats m 0 c).after 12 t) from leaves_in m c 12 (by decide) t, after0_12]
  rw [show (dats m 0 c).leavesExact 13 t = owns (c : Thread nD τ) (ms0_13 t) fullShare ((dats m 0 c).after 13 t) from leaves_in m c 13 (by decide) t, after0_13]
  rw [show (dats m 0 c).leavesExact 14 t = owns (c : Thread nD τ) (ms0_14 t) fullShare ((dats m 0 c).after 14 t) from leaves_in m c 14 (by decide) t, after0_14]
  rw [show (dats m 0 c).leavesExact 15 t = owns (c : Thread nD τ) (ms0_15 t) fullShare ((dats m 0 c).after 15 t) from leaves_in m c 15 (by decide) t, after0_15]
  rw [Dat.leavesExact_idle (dats m 0 c) 16 t (idle_out t (fun h => hl ((condLast_iff t).mp h))) (noFlush_out t (fun h => hl ((condLast_iff t).mp h)))]
  iintro ⟨⟨⟨⟨%dU, %hU, HU⟩, ⟨%dA, %hA, HA⟩, ⟨%dS, %hS, HS⟩, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain rfl := hU hz
  iapply ((runB c (grid0.coords t) _ _ _ _ _ _ _ _ _ _ _ _ _ _ _ _ _ _ _ _ _ _ _ _ _ _ _ _ _ _ _ _ _ _ _ _ _ _ _ _ _ _ (fun h => hz ((condFirst_iff t).mp h)) (fun h => hl ((condLast_iff t).mp h)) (iblk m c 1 t) (iblk m c 2 t) (iblk m c 3 t) (iblk m c 4 t) (iblk m c 5 t) (iblk m c 6 t) (iblk m c 7 t) (iblk m c 8 t) (UV m c) dA dS).2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HU]; · iexact HU
  isplitl [HA]; · iexact HA
  isplitl [HS]; · iexact HS
  iintro ⟨H1, H2, H3, H4, H5, H6, H7, H8, HU, HA, HS⟩
  isplitl [HU HA HS HD Hg]
  · isplitr [Hg]
    · isplitl [HU]
      · iexists (UV m c); isplitr; · ipureintro; exact fun _ => rfl
        iexact HU
      isplitl [HA]
      · iexists _; isplitr
        swap
        · unfold owns; iexists _; isplitr
          swap; · iexact HA
          ipureintro; exact (readAB c _ _ _ _ _ _ _ _ _ _ _ _ _ _ _ _ _ _ _ _ _ _ _ _ _ _ _ _ _ _ _ _ _ _ _ _ _ _ _ _ _ _ _ (fun h => hz ((condFirst_iff t).mp h)) (fun h => hl ((condLast_iff t).mp h)) _ _ _ _ _ _ _ _ _ _ _ )
        ipureintro; exact stepA m c _ dA hA
      isplitl [HS]
      · iexists _; isplitr
        swap
        · unfold owns; iexists _; isplitr
          swap; · iexact HS
          ipureintro; exact (readSB c _ _ _ _ _ _ _ _ _ _ _ _ _ _ _ _ _ _ _ _ _ _ _ _ _ _ _ _ _ _ _ _ _ _ _ _ _ _ _ _ _ _ _ (fun h => hz ((condFirst_iff t).mp h)) (fun h => hl ((condLast_iff t).mp h)) _ _ _ _ _ _ _ _ _ _ _ )
        ipureintro; exact stepS m c _ dS hS
      iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 4800000 in
/-- The body at the first point. -/
theorem sound_bodyA (c : Dev nD) (t : Fin cfg0.N) (hz : t.val = 0) (hl : ¬t.val = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from leaves_in m c 0 (by decide) t, after0_0]
  rw [show (dats m 0 c).leavesExact 1 t = owns (c : Thread nD τ) (ms0_1 t) fullShare ((dats m 0 c).after 1 t) from leaves_in m c 1 (by decide) t, after0_1]
  rw [show (dats m 0 c).leavesExact 2 t = owns (c : Thread nD τ) (ms0_2 t) fullShare ((dats m 0 c).after 2 t) from leaves_in m c 2 (by decide) t, after0_2]
  rw [show (dats m 0 c).leavesExact 3 t = owns (c : Thread nD τ) (ms0_3 t) fullShare ((dats m 0 c).after 3 t) from leaves_in m c 3 (by decide) t, after0_3]
  rw [show (dats m 0 c).leavesExact 4 t = owns (c : Thread nD τ) (ms0_4 t) fullShare ((dats m 0 c).after 4 t) from leaves_in m c 4 (by decide) t, after0_4]
  rw [show (dats m 0 c).leavesExact 5 t = owns (c : Thread nD τ) (ms0_5 t) fullShare ((dats m 0 c).after 5 t) from leaves_in m c 5 (by decide) t, after0_5]
  rw [show (dats m 0 c).leavesExact 6 t = owns (c : Thread nD τ) (ms0_6 t) fullShare ((dats m 0 c).after 6 t) from leaves_in m c 6 (by decide) t, after0_6]
  rw [show (dats m 0 c).leavesExact 7 t = owns (c : Thread nD τ) (ms0_7 t) fullShare ((dats m 0 c).after 7 t) from leaves_in m c 7 (by decide) t, after0_7]
  rw [show (dats m 0 c).leavesExact 8 t = owns (c : Thread nD τ) (ms0_8 t) fullShare ((dats m 0 c).after 8 t) from leaves_in m c 8 (by decide) t, after0_8]
  rw [show (dats m 0 c).leavesExact 9 t = owns (c : Thread nD τ) (ms0_9 t) fullShare ((dats m 0 c).after 9 t) from leaves_in m c 9 (by decide) t, after0_9]
  rw [show (dats m 0 c).leavesExact 10 t = owns (c : Thread nD τ) (ms0_10 t) fullShare ((dats m 0 c).after 10 t) from leaves_in m c 10 (by decide) t, after0_10]
  rw [show (dats m 0 c).leavesExact 11 t = owns (c : Thread nD τ) (ms0_11 t) fullShare ((dats m 0 c).after 11 t) from leaves_in m c 11 (by decide) t, after0_11]
  rw [show (dats m 0 c).leavesExact 12 t = owns (c : Thread nD τ) (ms0_12 t) fullShare ((dats m 0 c).after 12 t) from leaves_in m c 12 (by decide) t, after0_12]
  rw [show (dats m 0 c).leavesExact 13 t = owns (c : Thread nD τ) (ms0_13 t) fullShare ((dats m 0 c).after 13 t) from leaves_in m c 13 (by decide) t, after0_13]
  rw [show (dats m 0 c).leavesExact 14 t = owns (c : Thread nD τ) (ms0_14 t) fullShare ((dats m 0 c).after 14 t) from leaves_in m c 14 (by decide) t, after0_14]
  rw [show (dats m 0 c).leavesExact 15 t = owns (c : Thread nD τ) (ms0_15 t) fullShare ((dats m 0 c).after 15 t) from leaves_in m c 15 (by decide) t, after0_15]
  rw [Dat.leavesExact_idle (dats m 0 c) 16 t (idle_out t (fun h => hl ((condLast_iff t).mp h))) (noFlush_out t (fun h => hl ((condLast_iff t).mp h)))]
  iintro ⟨⟨⟨⟨%dU, %hU, HU⟩, ⟨%dA, %hA, HA⟩, ⟨%dS, %hS, HS⟩, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain rfl : t = tAt 0 := Fin.ext hz
  iapply ((runA c (grid0.coords (tAt 0)) _ _ _ _ _ _ _ _ _ _ _ _ _ _ _ _ _ _ _ _ _ _ _ _ _ _ _ _ _ _ _ _ _ _ _ _ _ _ _ _ _ _ ((condFirst_iff (tAt 0)).mpr hz) (fun h => hl ((condLast_iff (tAt 0)).mp h)) (iblk m c 0 (tAt 0)) (iblk m c 1 (tAt 0)) (iblk m c 2 (tAt 0)) (iblk m c 3 (tAt 0)) (iblk m c 4 (tAt 0)) (iblk m c 5 (tAt 0)) (iblk m c 6 (tAt 0)) (iblk m c 7 (tAt 0)) (iblk m c 8 (tAt 0)) (iblk m c 9 (tAt 0)) (iblk m c 10 (tAt 0)) (iblk m c 11 (tAt 0)) dA dS).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HU]; · iexists _; iexact HU
  isplitl [HA]; · iexact HA
  isplitl [HS]; · iexact HS
  iintro ⟨H0, H1, H2, H3, H4, H5, H6, H7, H8, H9, H10, H11, ⟨%eU, HU⟩, HA, HS⟩
  isplitl [HU HA HS HD Hg]
  · isplitr [Hg]
    · isplitl [HU]
      · iexists (UV m c); isplitr; · ipureintro; exact fun _ => rfl
        unfold owns; iexists _; isplitr
        swap; · iexact HU
        ipureintro; exact funext fun y => View.read_writes_apply_of_pieces _ _ _ _ (piecesU c _ _ _ _ _ _ _ _ _ _ _ _) y (coverU c _ _ _ _ _ _ _ _ _ _ _ _ y)
      isplitl [HA]
      · iexists _; isplitr
        swap
        · unfold owns; iexists _; isplitr
          swap; · iexact HA
          ipureintro; exact (readAA c _ _ _ _ _ _ _ _ _ _ _ _ _ _ _ _ _ _ _ _ _ _ _ _ _ _ _ _ _ _ _ _ _ _ _ _ _ _ _ _ _ _ _ ((condFirst_iff (tAt 0)).mpr hz) (fun h => hl ((condLast_iff (tAt 0)).mp h)) _ _ _ _ _ _ _ _ _ _ _ _ _ _ )
        ipureintro; exact stepA m c _ dA hA
      isplitl [HS]
      · iexists _; isplitr
        swap
        · unfold owns; iexists _; isplitr
          swap; · iexact HS
          ipureintro; exact (readSA c _ _ _ _ _ _ _ _ _ _ _ _ _ _ _ _ _ _ _ _ _ _ _ _ _ _ _ _ _ _ _ _ _ _ _ _ _ _ _ _ _ _ _ ((condFirst_iff (tAt 0)).mpr hz) (fun h => hl ((condLast_iff (tAt 0)).mp h)) _ _ _ _ _ _ _ _ _ _ _ _ _ _ )
        ipureintro; exact stepS m c _ dS hS
      iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 4800000 in
/-- The body at the last point. -/
theorem sound_bodyC (c : Dev nD) (t : Fin cfg0.N) (hz : ¬t.val = 0) (hl : t.val = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from leaves_in m c 0 (by decide) t, after0_0]
  rw [show (dats m 0 c).leavesExact 1 t = owns (c : Thread nD τ) (ms0_1 t) fullShare ((dats m 0 c).after 1 t) from leaves_in m c 1 (by decide) t, after0_1]
  rw [show (dats m 0 c).leavesExact 2 t = owns (c : Thread nD τ) (ms0_2 t) fullShare ((dats m 0 c).after 2 t) from leaves_in m c 2 (by decide) t, after0_2]
  rw [show (dats m 0 c).leavesExact 3 t = owns (c : Thread nD τ) (ms0_3 t) fullShare ((dats m 0 c).after 3 t) from leaves_in m c 3 (by decide) t, after0_3]
  rw [show (dats m 0 c).leavesExact 4 t = owns (c : Thread nD τ) (ms0_4 t) fullShare ((dats m 0 c).after 4 t) from leaves_in m c 4 (by decide) t, after0_4]
  rw [show (dats m 0 c).leavesExact 5 t = owns (c : Thread nD τ) (ms0_5 t) fullShare ((dats m 0 c).after 5 t) from leaves_in m c 5 (by decide) t, after0_5]
  rw [show (dats m 0 c).leavesExact 6 t = owns (c : Thread nD τ) (ms0_6 t) fullShare ((dats m 0 c).after 6 t) from leaves_in m c 6 (by decide) t, after0_6]
  rw [show (dats m 0 c).leavesExact 7 t = owns (c : Thread nD τ) (ms0_7 t) fullShare ((dats m 0 c).after 7 t) from leaves_in m c 7 (by decide) t, after0_7]
  rw [show (dats m 0 c).leavesExact 8 t = owns (c : Thread nD τ) (ms0_8 t) fullShare ((dats m 0 c).after 8 t) from leaves_in m c 8 (by decide) t, after0_8]
  rw [show (dats m 0 c).leavesExact 9 t = owns (c : Thread nD τ) (ms0_9 t) fullShare ((dats m 0 c).after 9 t) from leaves_in m c 9 (by decide) t, after0_9]
  rw [show (dats m 0 c).leavesExact 10 t = owns (c : Thread nD τ) (ms0_10 t) fullShare ((dats m 0 c).after 10 t) from leaves_in m c 10 (by decide) t, after0_10]
  rw [show (dats m 0 c).leavesExact 11 t = owns (c : Thread nD τ) (ms0_11 t) fullShare ((dats m 0 c).after 11 t) from leaves_in m c 11 (by decide) t, after0_11]
  rw [show (dats m 0 c).leavesExact 12 t = owns (c : Thread nD τ) (ms0_12 t) fullShare ((dats m 0 c).after 12 t) from leaves_in m c 12 (by decide) t, after0_12]
  rw [show (dats m 0 c).leavesExact 13 t = owns (c : Thread nD τ) (ms0_13 t) fullShare ((dats m 0 c).after 13 t) from leaves_in m c 13 (by decide) t, after0_13]
  rw [show (dats m 0 c).leavesExact 14 t = owns (c : Thread nD τ) (ms0_14 t) fullShare ((dats m 0 c).after 14 t) from leaves_in m c 14 (by decide) t, after0_14]
  rw [show (dats m 0 c).leavesExact 15 t = owns (c : Thread nD τ) (ms0_15 t) fullShare ((dats m 0 c).after 15 t) from leaves_in m c 15 (by decide) t, after0_15]
  rw [show (dats m 0 c).leavesExact 16 t = owns (c : Thread nD τ) (ms0_16 t) fullShare ((dats m 0 c).after 16 t) from by unfold Dat.leavesExact; rw [live_out t ((condLast_iff t).mpr hl)], after0_16]
  iintro ⟨⟨⟨⟨%dU, %hU, HU⟩, ⟨%dA, %hA, HA⟩, ⟨%dS, %hS, HS⟩, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain rfl := hU hz
  iapply ((runC c (grid0.coords t) _ _ _ _ _ _ _ _ _ _ _ _ _ _ _ _ _ _ _ _ _ _ _ _ _ _ _ _ _ _ _ _ _ _ _ _ _ _ _ _ _ _ (fun h => hz ((condFirst_iff t).mp h)) ((condLast_iff t).mpr hl) (iblk m c 1 t) (iblk m c 2 t) (iblk m c 3 t) (iblk m c 4 t) (iblk m c 5 t) (iblk m c 6 t) (iblk m c 7 t) (iblk m c 8 t) (iblk m c 12 t) (iblk m c 13 t) (iblk m c 14 t) (iblk m c 15 t) (UV m c) dA dS).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [HU]; · iexact HU
  isplitl [H16]; · iexists _; iexact H16
  isplitl [HD]; · iexact HD
  isplitl [HA]; · iexact HA
  isplitl [HS]; · iexact HS
  iintro ⟨H1, H2, H3, H4, H5, H6, H7, H8, H12, H13, H14, H15, HU, ⟨%e16, H16⟩, ⟨%eD, HD⟩, HA, HS⟩
  isplitl [HU HA HS HD Hg]
  · isplitr [Hg]
    · isplitl [HU]
      · iexists (UV m c); isplitr; · ipureintro; exact fun _ => rfl
        iexact HU
      isplitl [HA]
      · iexists _; isplitr
        swap
        · unfold owns; iexists _; isplitr
          swap; · iexact HA
          ipureintro; exact (readAC c _ _ _ _ _ _ _ _ _ _ _ _ _ _ _ _ _ _ _ _ _ _ _ _ _ _ _ _ _ _ _ _ _ _ _ _ _ _ _ _ _ _ _ (fun h => hz ((condFirst_iff t).mp h)) ((condLast_iff t).mpr hl) _ _ _ _ _ _ _ _ _ _ _ _ _ _ _ )
        ipureintro; exact stepA m c _ dA hA
      isplitl [HS]
      · iexists _; isplitr
        swap
        · unfold owns; iexists _; isplitr
          swap; · iexact HS
          ipureintro; exact (readSC c _ _ _ _ _ _ _ _ _ _ _ _ _ _ _ _ _ _ _ _ _ _ _ _ _ _ _ _ _ _ _ _ _ _ _ _ _ _ _ _ _ _ _ (fun h => hz ((condFirst_iff t).mp h)) ((condLast_iff t).mpr hl) _ _ _ _ _ _ _ _ _ _ _ _ _ _ _ )
        ipureintro; exact stepS m c _ dS hS
      iexists _; unfold owns; iexists _; isplitr
      swap; · iexact HD
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr
  swap; · iexact H16
  ipureintro; refine (outC c _ _ _ _ _ _ _ _ _ _ _ _ _ _ _ _ _ _ _ _ _ _ _ _ _ _ _ _ _ _ _ _ _ _ _ _ _ _ _ _ _ _ _ (fun h => hz ((condFirst_iff t).mp h)) ((condLast_iff t).mpr hl) _ _ _ _ _ _ _ _ _ _ _ _ _ _ _ _).trans ?_
  unfold outG
  rw [funext fun y => stepA m c t dA hA y (by have h : (y 0).val < 32 := (y 0).isLt; omega), funext fun y => stepS m c t dS hS y (by have h : (y 0).val < 32 := (y 0).isLt; omega)]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_bodyA m c t hz (by omega)
  · by_cases hl : t.val = 31
    · exact sound_bodyC m c t hz hl
    · exact sound_bodyB m c t hz hl

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the scratches. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%dU, HU⟩, ⟨%dA, HA⟩, ⟨%dS, HS⟩, HD⟩, Hg⟩
  isplitr [Hg]
  · isplitl [HU]
    · iexists dU; isplitr; · ipureintro; exact fun h => absurd rfl h
      iexact HU
    isplitl [HA]
    · iexists dA; isplitr; · ipureintro; exact fun y h => absurd h (Nat.not_lt_zero _)
      iexact HA
    isplitl [HS]
    · iexists dS; isplitr; · ipureintro; exact fun y h => absurd h (Nat.not_lt_zero _)
      iexact HS
    iexact HD
  iexact Hg

/-- After the last point the scratches' contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiA_eq]
  unfold PhiS
  iintro ⟨⟨⟨%dU, %hU, HU⟩, ⟨%dA, %hA, HA⟩, ⟨%dS, %hS, HS⟩, HD⟩, Hg⟩
  isplitr [Hg]
  · isplitl [HU]; · iexists _; iexact HU
    isplitl [HA]; · iexists _; iexact HA
    isplitl [HS]; · iexists _; iexact HS
    iexact HD
  iexact Hg

-- the launch theorem's implicit arguments are found by unifying its conclusion with this one
set_option backward.isDefEq.respectTransparency.types false in
/-- Every weakly fair execution terminates, every array of the launch ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Hand

end
-- ==== Proof.KI.Result.lean ====
/- The kernel's frame and its result: the output array is the last point's output block. -/
module

public import proofs.«01_k».proof.Proof.KI.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The frame: every execution terminates, the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

/-- The output block is the whole output array: its block places an index at itself. -/
theorem outBlk_emb (t : Fin cfg0.N) (y : S32x1024.Idx) : ((cfg0.win 16).blk t).view.emb y = y := by
  funext a
  match a with
  | ⟨0, _⟩ => exact Fin.ext (by show 0 * 32 + 1 * (y 0).val = (y 0).val; omega)
  | ⟨1, _⟩ => exact Fin.ext (by show 0 * 1024 + 1 * (y 1).val = (y 1).val; omega)

/-- The last point writes the output back, and no other does. -/
theorem flush_out : ∀ t : Fin cfg0.N, (cfg0.win 16).flush t = true → t = tAt 31 := by decide +kernel

/-- The output array after the run. -/
theorem arr_out (c : Dev nD) : (dats m 0 c).arrAt 16 cfg0.N = outG m c (tAt 31) := by
  refine (dats m 0 c).arrAt_eq_of_covers 16 _ (by decide +kernel) fun t hf y => ?_
  rw [flush_out t hf, after0_16]
  exact congrArg (outG m c (tAt 31)) (outBlk_emb (tAt 31) y).symm

/-- The kernel's result on every device, its arguments unchanged. -/
theorem run_value : θ_run defs (onTc (τ := τ) (main (F := F))) ⟨m, fun _ => 0, ρ⟩ (fun r => ∀ c : Dev nD,
      r.2.mem ((c.tc : Thread nD τ).loc main_v3) = outG m c (tAt 31)) :=
  (θ_run defs _ _).mono (fun _ h c => ((h c).1 16).trans (arr_out m c)) (run_main m ρ)

end Cert.KernelIdeal.Hand

end
-- ==== Proof.Frames.lean ====
/- The frame claims. -/
module

public import proofs.«01_k».proof.Defs
public import proofs.«01_k».proof.Proof.KI.Result
public import proofs.«01_k».proof.Proof.Gen.ReferenceIdeal.Run
public import proofs.«01_k».proof.Proof.Gen.Kernel
public import proofs.«01_k».proof.Proof.Gen.Pre_finite

@[expose] public section

set_option maxRecDepth 16384

noncomputable section

namespace Cert.Proof

open Idealize.ShloMosaic Idealize.SL.Sem

/-- The idealized kernel's frame. -/
theorem frame_KernelIdeal : @Cert.quiescent_KernelIdeal Cert.KernelIdeal.Gen.facts := fun m ρ _ => Cert.KernelIdeal.Hand.frame m ρ

/-- The same where the arguments are finite. -/
theorem frame_KernelIdeal_finite : @Cert.quiescent_KernelIdeal_pre_finite Cert.KernelIdeal.Gen.facts Cert.Pre_finite.Gen.facts :=
  fun m ρ _ => Cert.KernelIdeal.Hand.frame m ρ

/-- The reference's frame: it declares no semaphore. -/
theorem frame_ReferenceIdeal : @Cert.quiescent_ReferenceIdeal Cert.ReferenceIdeal.Gen.facts := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same where the arguments are finite. -/
theorem frame_ReferenceIdeal_finite : @Cert.quiescent_ReferenceIdeal_pre_finite Cert.ReferenceIdeal.Gen.facts Cert.Pre_finite.Gen.facts :=
  fun m ρ _ => frame_ReferenceIdeal m ρ trivial

section Kernel

attribute [local instance] Cert.Kernel.Gen.facts Cert.KernelIdeal.Gen.facts

set_option maxHeartbeats 4000000 in
/-- The kernel's body table is the idealized kernel's: the two programs are one text. -/
theorem defs₀_eq : (Cert.Kernel.defs₀ (F := Bits)) = Cert.KernelIdeal.defs₀ (F := Bits) := by
  refine congrArg Defs.onTc (funext fun l => ?_)
  match l with
  | 0 =>
    funext ts
    obtain ⟨t, s⟩ := ts
    rfl
  | ⟨_ + 1, h⟩ => exact absurd h (Nat.not_lt.2 (Nat.le_add_left _ _))

/-- So with the pipeline's entries added. -/
theorem defs_eq : (Cert.Kernel.defs (F := Bits)) = Cert.KernelIdeal.defs (F := Bits) :=
  congrArg (Pipeline.defs (Cert.KernelIdeal.pcfgs (F := Bits))) defs₀_eq

/-- The kernel's frame: the idealized kernel's frame is proved at any floats, so it is the kernel's at bit patterns. -/
theorem frame_Kernel : @Cert.quiescent_Kernel Cert.Kernel.Gen.facts := fun m ρ _ =>
  defs_eq.symm ▸ Cert.KernelIdeal.Hand.frame (F := Bits) m ρ

end Kernel

end Cert.Proof

end
-- ==== Proof.Val.Reals.lean ====
/- Extended reals that are reals: sums, maxima, exponentials and quotients of reals, and the constants the programs name. -/
module

public import Idealize.ShloMosaic.Lib.Pointwise
public import Idealize.ShloMosaic.Lib.IdealHost
public import Idealize.ShloMosaic.PureOps.Ideal.Laws

@[expose] public section

noncomputable section

namespace Cert.Val

open Idealize.ShloMosaic

/-- A finite sum of reals, as extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals, as extended reals, is the real sum of products. -/
theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]; exact Finset.sum_congr rfl fun i _ => (EReal.coe_mul _ _).symm

/-- The maximum of finitely many reals, not none, is a real. -/
theorem fold_max_real {ι : Type*} (s : Finset ι) (hs : s.Nonempty) (f : ι → EReal) (hf : ∀ i ∈ s, ∃ r : ℝ, f i = (r : EReal)) :
    ∃ r : ℝ, s.fold max (⊥ : EReal) f = (r : EReal) := by
  classical
  induction hs using Finset.Nonempty.cons_induction with
  | singleton a =>
    obtain ⟨r, hr⟩ := hf a (Finset.mem_singleton_self a)
    exact ⟨r, by rw [Finset.fold_singleton, hr]; exact max_eq_left bot_le⟩
  | cons a s ha hs ih =>
    obtain ⟨r, hr⟩ := hf a (Finset.mem_cons_self a s)
    obtain ⟨r', hr'⟩ := ih fun i hi => hf i (Finset.mem_cons_of_mem hi)
    exact ⟨max r r', by rw [Finset.fold_cons, hr, hr']; exact (EReal.coe_strictMono.monotone.map_max).symm⟩

/-- The word of one eighth. -/
theorem ofBits_eighth : Ideal.ofBits .f32 0x3E000000#32 = (((1 / 8 : ℝ)) : EReal) := by
  simp [Ideal.ofBits, Ideal.ieee, -EReal.coe_mul]; norm_num

/-- The word of minus infinity. -/
theorem ofBits_bot : Ideal.ofBits .f32 0xFF800000#32 = ⊥ := by
  simp [Ideal.ofBits, Ideal.ieee]

/-- The word of infinity. -/
theorem ofBits_top : Ideal.ofBits .f32 0x7F800000#32 = ⊤ := by
  simp [Ideal.ofBits, Ideal.ieee]

/-- The quotient of two reals, the divisor not zero. -/
theorem div_real (x : ℝ) {y : ℝ} (h : y ≠ 0) : Ideal.div (x : EReal) (y : EReal) = ((x / y : ℝ) : EReal) := by
  rw [Ideal.div_coe h, ← EReal.coe_mul]; congr 1; ring

/-- An extended real whose absolute value is below infinity is a real. -/
theorem real_of_abs_lt {x : EReal} (h : max x (-x) < ⊤) : ∃ r : ℝ, x = (r : EReal) := by
  induction x using EReal.rec with
  | bot => simp at h
  | coe r => exact ⟨r, rfl⟩
  | top => simp at h

end Cert.Val

end
-- ==== Proof.Val.Spec.lean ====
/- The attention of one query row per batch entry over the reals, in the two orders of computation, and that they agree:
   the key bias shifts a head's scores by a constant, which the softmax does not see, and the value bias goes through
   the softmax's average unchanged. -/
module

public import Mathlib.Analysis.SpecialFunctions.Exp
public import Mathlib.Algebra.BigOperators.Fin
public import Mathlib.Tactic.FieldSimp
public import Mathlib.Tactic.Ring
public import Mathlib.Tactic.Linarith

@[expose] public section

noncomputable section

namespace Cert.Val

/-- The arguments as reals: queries, keys, values, and the four projections with their biases. -/
structure Args where
  q : Fin 32 → Fin 1024 → ℝ
  k : Fin 32 → Fin 2048 → Fin 1024 → ℝ
  v : Fin 32 → Fin 2048 → Fin 1024 → ℝ
  wq : Fin 1024 → Fin 1024 → ℝ
  bq : Fin 1024 → ℝ
  wk : Fin 1024 → Fin 1024 → ℝ
  bk : Fin 1024 → ℝ
  wv : Fin 1024 → Fin 1024 → ℝ
  bv : Fin 1024 → ℝ
  wo : Fin 1024 → Fin 1024 → ℝ
  bo : Fin 1024 → ℝ

/-- Column `e` of head `h`. -/
def hcol (h : Fin 16) (e : Fin 64) : Fin 1024 := ⟨64 * h.val + e.val, by omega⟩

/-- The head of a column. -/
def headOf (c : Fin 1024) : Fin 16 := ⟨c.val / 64, by omega⟩

/-- Row `x` of quarter `j`. -/
def qrow (j : Fin 4) (x : Fin 512) : Fin 2048 := ⟨512 * j.val + x.val, by omega⟩

/-- A sum over the rows, quarter by quarter. -/
theorem sum_quarters (f : Fin 2048 → ℝ) :
    ∑ l, f l = ∑ x, f (qrow 0 x) + ∑ x, f (qrow 1 x) + ∑ x, f (qrow 2 x) + ∑ x, f (qrow 3 x) := by
  rw [← Fin.sum_univ_four (fun j => ∑ x, f (qrow j x)), ← Fintype.sum_prod_type' (fun j x => f (qrow j x))]
  symm
  refine Fintype.sum_equiv (finProdFinEquiv (m := 4) (n := 512)) _ _ fun x => congrArg f (Fin.ext ?_)
  show 512 * x.1.val + x.2.val = x.2.val + 512 * x.1.val
  omega

/-- A sum over a pair's columns, head by head. -/
theorem sum_pair (f : Fin 128 → ℝ) :
    ∑ j, f j = ∑ e : Fin 64, f ⟨e.val, by omega⟩ + ∑ e : Fin 64, f ⟨64 + e.val, by omega⟩ :=
  Fin.sum_univ_add (a := 64) (b := 64) f

namespace Args

variable (a : Args)

/-- The query projection. -/
def qr (b : Fin 32) (c : Fin 1024) : ℝ := ∑ i, a.q b i * a.wq i c + a.bq c

/-- The key projection. -/
def kr (b : Fin 32) (l : Fin 2048) (c : Fin 1024) : ℝ := ∑ i, a.k b l i * a.wk i c + a.bk c

/-- The value projection. -/
def vr (b : Fin 32) (l : Fin 2048) (c : Fin 1024) : ℝ := ∑ i, a.v b l i * a.wv i c + a.bv c

/-- The scores: scaled products of a head's query and key columns. -/
def sc (b : Fin 32) (h : Fin 16) (l : Fin 2048) : ℝ := (∑ e, a.qr b (hcol h e) * a.kr b l (hcol h e)) * (1 / 8)

/-- A head's attended value column under weights `exp (sc − m)`. -/
def att (m : Fin 32 → Fin 16 → ℝ) (b : Fin 32) (c : Fin 1024) : ℝ :=
  ∑ l, Real.exp (a.sc b (headOf c) l - m b (headOf c)) / (∑ l', Real.exp (a.sc b (headOf c) l' - m b (headOf c))) * a.vr b l c

/-- The layer's output by projections of keys and values. -/
def out (m : Fin 32 → Fin 16 → ℝ) (b : Fin 32) (n : Fin 1024) : ℝ := ∑ c, a.att m b c * a.wo c n + a.bo n

/-- A head's query pulled back through the key projection. -/
def u (b : Fin 32) (h : Fin 16) (d : Fin 1024) : ℝ := ∑ e, a.qr b (hcol h e) * (1 / 8) * a.wk d (hcol h e)

/-- The scores of the unprojected keys. -/
def s (b : Fin 32) (h : Fin 16) (l : Fin 2048) : ℝ := ∑ d, a.k b l d * a.u b h d

/-- The exponential sum of a head. -/
def eS (m : Fin 32 → Fin 16 → ℝ) (b : Fin 32) (h : Fin 16) : ℝ := ∑ l, Real.exp (a.s b h l - m b h)

/-- The weighted sum of the unprojected values of a head. -/
def eA (m : Fin 32 → Fin 16 → ℝ) (b : Fin 32) (h : Fin 16) (d : Fin 1024) : ℝ := ∑ l, Real.exp (a.s b h l - m b h) * a.v b l d

/-- The update of the pulled-back order. -/
def upd (m : Fin 32 → Fin 16 → ℝ) (b : Fin 32) (c : Fin 1024) : ℝ :=
  ∑ d, a.eA m b (headOf c) d * (1 / a.eS m b (headOf c)) * a.wv d c + a.bv c

/-- The layer's output in the pulled-back order. -/
def outK (m : Fin 32 → Fin 16 → ℝ) (b : Fin 32) (n : Fin 1024) : ℝ := ∑ c, a.upd m b c * a.wo c n + a.bo n

/-- The key bias's constant in a head's scores. -/
def shift (b : Fin 32) (h : Fin 16) : ℝ := ∑ e, a.qr b (hcol h e) * (1 / 8) * a.bk (hcol h e)

/-- The scores are those of the unprojected keys, shifted by a constant of the head. -/
theorem sc_eq (b : Fin 32) (h : Fin 16) (l : Fin 2048) : a.sc b h l = a.s b h l + a.shift b h := by
  have e1 : a.s b h l = ∑ e, a.qr b (hcol h e) * (1 / 8) * ∑ d, a.k b l d * a.wk d (hcol h e) := by
    unfold s u
    simp only [Finset.mul_sum]
    rw [Finset.sum_comm]
    exact Finset.sum_congr rfl fun e _ => Finset.sum_congr rfl fun d _ => by ring
  rw [e1, shift, ← Finset.sum_add_distrib, sc, Finset.sum_mul]
  exact Finset.sum_congr rfl fun e _ => by unfold kr; ring

/-- The sum of the shifted exponentials is positive. -/
theorem eS_pos (m : Fin 32 → Fin 16 → ℝ) (b : Fin 32) (h : Fin 16) : 0 < a.eS m b h :=
  Finset.sum_pos (fun _ _ => Real.exp_pos _) Finset.univ_nonempty

/-- The softmax weight does not see the shift. -/
theorem weight_eq (m m' : Fin 32 → Fin 16 → ℝ) (b : Fin 32) (h : Fin 16) (l : Fin 2048) :
    Real.exp (a.sc b h l - m b h) / (∑ l', Real.exp (a.sc b h l' - m b h)) = Real.exp (a.s b h l - m' b h) * (1 / a.eS m' b h) := by
  have e (l : Fin 2048) : Real.exp (a.sc b h l - m b h) = Real.exp (a.shift b h - m b h + m' b h) * Real.exp (a.s b h l - m' b h) := by
    rw [← Real.exp_add, sc_eq]; congr 1; ring
  simp only [e, ← Finset.mul_sum]
  show _ / (_ * a.eS m' b h) = _
  have h1 := (a.eS_pos m' b h).ne'
  have h2 := (Real.exp_pos (a.shift b h - m b h + m' b h)).ne'
  field_simp

/-- The weights sum to one. -/
theorem weight_sum (m : Fin 32 → Fin 16 → ℝ) (b : Fin 32) (h : Fin 16) :
    ∑ l, Real.exp (a.s b h l - m b h) * (1 / a.eS m b h) = 1 := by
  rw [← Finset.sum_mul]
  exact mul_one_div_cancel (a.eS_pos m b h).ne'

/-- A head's attended value column is the update of the pulled-back order. -/
theorem att_eq (m m' : Fin 32 → Fin 16 → ℝ) (b : Fin 32) (c : Fin 1024) : a.att m b c = a.upd m' b c := by
  unfold att
  simp only [a.weight_eq m m' b (headOf c)]
  unfold vr upd
  simp only [mul_add, Finset.sum_add_distrib]
  rw [← Finset.sum_mul, weight_sum, one_mul]
  congr 1
  simp only [Finset.mul_sum]
  rw [Finset.sum_comm]
  refine Finset.sum_congr rfl fun d _ => ?_
  unfold eA
  simp only [Finset.sum_mul]
  exact Finset.sum_congr rfl fun l _ => by ring

/-- The two orders of computation give one output. -/
theorem out_eq (m m' : Fin 32 → Fin 16 → ℝ) (b : Fin 32) (n : Fin 1024) : a.out m b n = a.outK m' b n := by
  unfold out outK
  simp only [a.att_eq m m']

end Args

end Cert.Val

end
-- ==== Proof.Val.KernelRead.lean ====
/- The kernel's payloads over real blocks, read at an index. -/
module

public import proofs.«01_k».proof.Proof.Val.Reals
public import proofs.«01_k».proof.Proof.Val.Spec
public import proofs.«01_k».proof.Proof.KI.Values
public import Idealize.ShloMosaic.Lib.Pointwise.IndexBridge

@[expose] public section

set_option maxRecDepth 16384

noncomputable section

namespace Cert.Val

open Cert.KernelIdeal Cert.KernelIdeal.Gen Cert.KernelIdeal.Hand
open Idealize.ShloMosaic

/-- The scaled query projection at an index. -/
theorem pay4_apply (x0 : Vec Ideal S32x1024 .f32) (x9 : Vec Ideal S1024x1024 .f32) (x10 : Vec Ideal S1x1024 .f32) (b : Fin 32) (c : Fin 1024) :
    k0_pay4 (F := Ideal) x0 x9 x10 (ix2 b c) = (∑ k : Fin 1024, x0 (ix2 b k) * x9 (ix2 k c) + x10 (ix2 0 c)) * Ideal.ofBits .f32 0x3E000000#32 := by
  pointwise [k0_pay4]

/-- The mask word of a column: one below 64, zero from there. -/
theorem maskWord (j : Fin 128) : ((BitVec.setWidth 32 (IntOp.cmpi .slt (BitVec.ofNat 32 j.val) 64#32)).toInt : ℝ) = if j.val < 64 then 1 else 0 := by
  have h : ∀ j : Fin 128, (BitVec.setWidth 32 (IntOp.cmpi .slt (BitVec.ofNat 32 j.val) 64#32)).toInt = if j.val < 64 then 1 else 0 := by decide
  rw [h j]; split <;> simp

/-- The even head's mask at an index. -/
theorem pay5_apply (j : Fin 128) : k0_pay5 (F := Ideal) (ix2 0 j) = (((if j.val < 64 then 1 else 0) : ℝ) : EReal) := by
  pointwise [k0_pay5]
  exact congrArg (fun r : ℝ => (r : EReal)) (maskWord j)

/-- The same mask where the update is computed. -/
theorem pay33_apply (j : Fin 128) : k0_pay33 (F := Ideal) (ix2 0 j) = (((if j.val < 64 then 1 else 0) : ℝ) : EReal) := by
  pointwise [k0_pay33]
  exact congrArg (fun r : ℝ => (r : EReal)) (maskWord j)

/-- A head's mask at an index: one on the head's own half of the pair's columns. -/
theorem mask_apply (h : ℕ) (j : Fin 128) : mask (F := Ideal) h (ix2 0 j) = (((if j.val / 64 = h % 2 then 1 else 0) : ℝ) : EReal) := by
  unfold mask
  split
  · rw [pay5_apply]
    congr 1
    exact if_congr (by omega) rfl rfl
  · pointwise
    rw [pay5_apply, ← EReal.coe_one, ← EReal.coe_sub]
    congr 1
    by_cases h1 : j.val < 64
    · rw [if_pos h1, if_neg (by omega)]; norm_num
    · rw [if_neg h1, if_pos (by omega)]; norm_num

/-- One head's key-side rows at an index. -/
theorem pairRow_apply (msk : FVec Ideal S1x128 .f32) (qp : FVec Ideal S32x128 .f32) (w : Vec Ideal S1024x128 .f32) (b : Fin 32) (d : Fin 1024) :
    pairRow msk qp w (ix3 b 0 d) = ∑ j : Fin 128, qp (ix2 b j) * msk (ix2 0 j) * w (ix2 d j) := by
  pointwise [pairRow]

/-- Scores of a quarter's keys at an index. -/
theorem pay53_apply (u : Vec Ideal S1x16x1024 .f32) (k : Vec Ideal S1x512x1024 .f32) (l : Fin 512) (h : Fin 16) :
    k0_pay53 u k (ix2 l h) = ∑ d : Fin 1024, k (ix3 0 l d) * u (ix3 0 h d) := by
  pointwise [k0_pay53, k0_pay52]

/-- The second quarter's scores are the first quarter's function of the quarter. -/
theorem pay54_eq (u : Vec Ideal S1x16x1024 .f32) (k : Vec Ideal S1x512x1024 .f32) : k0_pay54 u k = k0_pay53 u k := rfl
/-- The third quarter's scores are that function. -/
theorem pay55_eq (u : Vec Ideal S1x16x1024 .f32) (k : Vec Ideal S1x512x1024 .f32) : k0_pay55 u k = k0_pay53 u k := rfl
/-- The fourth quarter's scores are that function. -/
theorem pay56_eq (u : Vec Ideal S1x16x1024 .f32) (k : Vec Ideal S1x512x1024 .f32) : k0_pay56 u k = k0_pay53 u k := rfl

/-- The maximum over all quarters of real scores is a real. -/
theorem pay57_real (u : Vec Ideal S1x16x1024 .f32) (k1 k2 k3 k4 : Vec Ideal S1x512x1024 .f32) (h : Fin 16)
    (h1 : ∀ l, ∃ r : ℝ, k0_pay53 u k1 (ix2 l h) = (r : EReal)) (h2 : ∀ l, ∃ r : ℝ, k0_pay53 u k2 (ix2 l h) = (r : EReal))
    (h3 : ∀ l, ∃ r : ℝ, k0_pay53 u k3 (ix2 l h) = (r : EReal)) (h4 : ∀ l, ∃ r : ℝ, k0_pay53 u k4 (ix2 l h) = (r : EReal)) :
    ∃ r : ℝ, k0_pay57 u k1 k2 k3 k4 (ix2 0 h) = (r : EReal) := by
  pointwise [k0_pay57, pay54_eq, pay55_eq, pay56_eq]
  rw [ofBits_bot]
  refine fold_max_real _ Finset.univ_nonempty _ fun x _ => ?_
  split
  · exact fold_max_real _ Finset.univ_nonempty _ fun l _ => h1 l
  split
  · exact fold_max_real _ Finset.univ_nonempty _ fun l _ => h2 l
  split
  · exact fold_max_real _ Finset.univ_nonempty _ fun l _ => h3 l
  · exact fold_max_real _ Finset.univ_nonempty _ fun l _ => h4 l

/-- The exponential sums at an index. -/
theorem rowS_apply (u : Vec Ideal S1x16x1024 .f32) (k1 k2 k3 k4 : Vec Ideal S1x512x1024 .f32) (h : Fin 16) :
    rowS u k1 k2 k3 k4 (ix3 0 0 h)
      = ∑ x : Fin 512, Ideal.exp (k0_pay53 u k1 (ix2 x h) - k0_pay57 u k1 k2 k3 k4 (ix2 0 h))
        + ∑ x : Fin 512, Ideal.exp (k0_pay53 u k2 (ix2 x h) - k0_pay57 u k1 k2 k3 k4 (ix2 0 h))
        + ∑ x : Fin 512, Ideal.exp (k0_pay53 u k3 (ix2 x h) - k0_pay57 u k1 k2 k3 k4 (ix2 0 h))
        + ∑ x : Fin 512, Ideal.exp (k0_pay53 u k4 (ix2 x h) - k0_pay57 u k1 k2 k3 k4 (ix2 0 h)) := by
  pointwise [rowS, k0_pay63, k0_pay59, k0_pay60, k0_pay61, k0_pay62, k0_pay58, pay54_eq, pay55_eq, pay56_eq]

/-- The weighted value sums at an index. -/
theorem rowA_apply (u : Vec Ideal S1x16x1024 .f32) (k1 k2 k3 k4 v1 v2 v3 v4 : Vec Ideal S1x512x1024 .f32) (h : Fin 16) (d : Fin 1024) :
    rowA u k1 k2 k3 k4 v1 v2 v3 v4 (ix3 0 h d)
      = ∑ x : Fin 512, Ideal.exp (k0_pay53 u k1 (ix2 x h) - k0_pay57 u k1 k2 k3 k4 (ix2 0 h)) * v1 (ix3 0 x d)
        + ∑ x : Fin 512, Ideal.exp (k0_pay53 u k2 (ix2 x h) - k0_pay57 u k1 k2 k3 k4 (ix2 0 h)) * v2 (ix3 0 x d)
        + ∑ x : Fin 512, Ideal.exp (k0_pay53 u k3 (ix2 x h) - k0_pay57 u k1 k2 k3 k4 (ix2 0 h)) * v3 (ix3 0 x d)
        + ∑ x : Fin 512, Ideal.exp (k0_pay53 u k4 (ix2 x h) - k0_pay57 u k1 k2 k3 k4 (ix2 0 h)) * v4 (ix3 0 x d) := by
  pointwise [rowA, k0_pay1, k0_pay64, k0_pay65, k0_pay59, k0_pay60, k0_pay61, k0_pay62, k0_pay58, pay54_eq, pay55_eq, pay56_eq]

/-- The reciprocal of the exponential sums at an index. -/
theorem pay32_apply (s : Vec Ideal S32x1x16 .f32) (b : Fin 32) (h : Fin 16) : k0_pay32 s (ix3 b 0 h) = Ideal.div 1 (s (ix3 b 0 h)) := by
  pointwise [k0_pay32]

/-- A head's mean at an index. -/
theorem headMean_apply (r : FVec Ideal S32x1x16 .f32) (a : Vec Ideal S32x1x1024 .f32) (h : Fin 16) (b : Fin 32) (d : Fin 1024) :
    headMean r a h (ix2 b d) = a (ix3 b 0 d) * r (ix3 b 0 h) := by
  pointwise [headMean]
  rw [← ix3_eq_valueIdx]

/-- A pair's columns of the update at an index. -/
theorem pairUpd_apply (m0 m1 : FVec Ideal S32x1024 .f32) (w : Vec Ideal S1024x128 .f32) (bv : Vec Ideal S1x128 .f32) (b : Fin 32) (j : Fin 128) :
    pairUpd m0 m1 w bv (ix2 b j)
      = (∑ d : Fin 1024, m0 (ix2 b d) * w (ix2 d j)) * k0_pay33 (F := Ideal) (ix2 0 j)
        + (∑ d : Fin 1024, m1 (ix2 b d) * w (ix2 d j)) * (1 - k0_pay33 (F := Ideal) (ix2 0 j)) + bv (ix2 0 j) := by
  pointwise [pairUpd]

/-- The output projection at an index. -/
theorem pay3_apply (x : Vec Ideal S32x1024 .f32) (w : Vec Ideal S1024x1024 .f32) (bo : Vec Ideal S1x1024 .f32) (b : Fin 32) (n : Fin 1024) :
    k0_pay3 x w bo (ix2 b n) = ∑ c : Fin 1024, x (ix2 b c) * w (ix2 c n) + bo (ix2 0 n) := by
  pointwise [k0_pay3]

end Cert.Val

end
-- ==== Proof.Val.KernelVal.lean ====
/- The kernel's values over real blocks are the pulled-back order's reals. -/
module

public import proofs.«01_k».proof.Proof.Val.KernelRead

@[expose] public section

set_option maxRecDepth 16384

noncomputable section

namespace Cert.Val

open Cert.KernelIdeal Cert.KernelIdeal.Gen Cert.KernelIdeal.Hand
open Idealize.ShloMosaic

/-- Columns of a value at an index. -/
theorem cols_apply {α : Type} {n : ℕ} (o : ℕ) (ho : o + 128 ≤ 1024) (x : (⟨2, ![n, 1024]⟩ : Shape).Idx → α) (i : Fin n) (j : Fin 128) :
    cols o ho x (ix2 i j) = x (ix2 i ⟨o + j.val, by omega⟩) := by
  rw [ix2_eq_valueIdx i (⟨o + j.val, by omega⟩ : Fin 1024)]
  rfl

/-- A sum over a pair's columns under a head's mask is the sum over the head's columns. -/
theorem masked_sum (h : Fin 16) (g : Fin 1024 → ℝ) :
    ∑ j : Fin 128, g ⟨128 * (h.val / 2) + j.val, by omega⟩ * (if j.val / 64 = h.val % 2 then 1 else 0) = ∑ e, g (hcol h e) := by
  rw [sum_pair]
  rcases Nat.mod_two_eq_zero_or_one h.val with h0 | h0
  · rw [Finset.sum_eq_zero (s := Finset.univ) (f := fun e : Fin 64 => g ⟨128 * (h.val / 2) + (64 + e.val), by omega⟩ * (if (64 + e.val) / 64 = h.val % 2 then (1 : ℝ) else 0))
      fun e _ => by rw [if_neg (by omega), mul_zero], add_zero]
    refine Finset.sum_congr rfl fun e _ => ?_
    rw [if_pos (by show e.val / 64 = _; omega), mul_one]
    exact congrArg g (Fin.ext (by show 128 * (h.val / 2) + e.val = 64 * h.val + e.val; omega))
  · rw [Finset.sum_eq_zero (s := Finset.univ) (f := fun e : Fin 64 => g ⟨128 * (h.val / 2) + e.val, by omega⟩ * (if e.val / 64 = h.val % 2 then (1 : ℝ) else 0))
      fun e _ => by rw [if_neg (by omega), mul_zero], zero_add]
    refine Finset.sum_congr rfl fun e _ => ?_
    rw [if_pos (by show (64 + e.val) / 64 = _; omega), mul_one]
    exact congrArg g (Fin.ext (by show 128 * (h.val / 2) + (64 + e.val) = 64 * h.val + e.val; omega))

/-- The key-side rows over real blocks. -/
theorem uVal_real (a : Args) (x0 : Vec Ideal S32x1024 .f32) (x9 : Vec Ideal S1024x1024 .f32) (x10 : Vec Ideal S1x1024 .f32) (x11 : Vec Ideal S1024x1024 .f32)
    (h0 : ∀ b i, x0 (ix2 b i) = (a.q b i : EReal)) (h9 : ∀ i c, x9 (ix2 i c) = (a.wq i c : EReal)) (h10 : ∀ c, x10 (ix2 0 c) = (a.bq c : EReal))
    (h11 : ∀ i c, x11 (ix2 i c) = (a.wk i c : EReal)) (b : Fin 32) (h : Fin 16) (d : Fin 1024) :
    uVal (F := Ideal) x0 x9 x10 x11 (ix3 b h d) = (a.u b h d : EReal) := by
  have hq (c : Fin 1024) : k0_pay4 (F := Ideal) x0 x9 x10 (ix2 b c) = ((a.qr b c * (1 / 8) : ℝ) : EReal) := by
    rw [pay4_apply]
    simp only [h0, h9, h10, coe_sum_mul, ofBits_eighth, ← EReal.coe_add, ← EReal.coe_mul]
    rfl
  show uRows (F := Ideal) (k0_pay4 x0 x9 x10) x11 h (ValueIdx.ix3 b 0 d) = _
  rw [← ix3_eq_valueIdx b (0 : Fin 1) d]
  unfold uRows
  rw [pairRow_apply]
  simp only [cols_apply, hq, h11, mask_apply, ← EReal.coe_mul, coe_sum]
  refine congrArg (fun r : ℝ => (r : EReal)) ?_
  refine Eq.trans (Finset.sum_congr rfl fun j _ => ?_) (masked_sum h fun c => a.qr b c * (1 / 8) * a.wk d c)
  ring

/-- One point's rows over real blocks: the exponential sums and the weighted value sums, for some real maximum of each head. -/
theorem rows_real (U : Vec Ideal S1x16x1024 .f32) (k1 k2 k3 k4 v1 v2 v3 v4 : Vec Ideal S1x512x1024 .f32)
    (u : Fin 16 → Fin 1024 → ℝ) (k v : Fin 2048 → Fin 1024 → ℝ) (hU : ∀ h d, U (ix3 0 h d) = (u h d : EReal))
    (hk1 : ∀ l d, k1 (ix3 0 l d) = (k (qrow 0 l) d : EReal)) (hk2 : ∀ l d, k2 (ix3 0 l d) = (k (qrow 1 l) d : EReal))
    (hk3 : ∀ l d, k3 (ix3 0 l d) = (k (qrow 2 l) d : EReal)) (hk4 : ∀ l d, k4 (ix3 0 l d) = (k (qrow 3 l) d : EReal))
    (hv1 : ∀ l d, v1 (ix3 0 l d) = (v (qrow 0 l) d : EReal)) (hv2 : ∀ l d, v2 (ix3 0 l d) = (v (qrow 1 l) d : EReal))
    (hv3 : ∀ l d, v3 (ix3 0 l d) = (v (qrow 2 l) d : EReal)) (hv4 : ∀ l d, v4 (ix3 0 l d) = (v (qrow 3 l) d : EReal)) :
    ∃ m : Fin 16 → ℝ, ∀ h,
      rowS (F := Ideal) U k1 k2 k3 k4 (ix3 0 0 h) = ((∑ l, Real.exp (∑ d, k l d * u h d - m h) : ℝ) : EReal)
      ∧ ∀ d, rowA (F := Ideal) U k1 k2 k3 k4 v1 v2 v3 v4 (ix3 0 h d) = ((∑ l, Real.exp (∑ d, k l d * u h d - m h) * v l d : ℝ) : EReal) := by
  have s1 (l : Fin 512) (h : Fin 16) : k0_pay53 (F := Ideal) U k1 (ix2 l h) = ((∑ d, k (qrow 0 l) d * u h d : ℝ) : EReal) := by
    rw [pay53_apply]; simp only [hk1, hU, coe_sum_mul]
  have s2 (l : Fin 512) (h : Fin 16) : k0_pay53 (F := Ideal) U k2 (ix2 l h) = ((∑ d, k (qrow 1 l) d * u h d : ℝ) : EReal) := by
    rw [pay53_apply]; simp only [hk2, hU, coe_sum_mul]
  have s3 (l : Fin 512) (h : Fin 16) : k0_pay53 (F := Ideal) U k3 (ix2 l h) = ((∑ d, k (qrow 2 l) d * u h d : ℝ) : EReal) := by
    rw [pay53_apply]; simp only [hk3, hU, coe_sum_mul]
  have s4 (l : Fin 512) (h : Fin 16) : k0_pay53 (F := Ideal) U k4 (ix2 l h) = ((∑ d, k (qrow 3 l) d * u h d : ℝ) : EReal) := by
    rw [pay53_apply]; simp only [hk4, hU, coe_sum_mul]
  choose m hm using fun h => pay57_real U k1 k2 k3 k4 h (fun l => ⟨_, s1 l h⟩) (fun l => ⟨_, s2 l h⟩) (fun l => ⟨_, s3 l h⟩) (fun l => ⟨_, s4 l h⟩)
  refine ⟨m, fun h => ⟨?_, fun d => ?_⟩⟩
  · rw [rowS_apply]
    simp only [s1, s2, s3, s4, hm, ← EReal.coe_sub, Ideal.exp_coe, coe_sum, ← EReal.coe_add]
    rw [sum_quarters]
  · rw [rowA_apply]
    simp only [s1, s2, s3, s4, hm, hv1, hv2, hv3, hv4, ← EReal.coe_sub, Ideal.exp_coe, coe_sum_mul, ← EReal.coe_add]
    rw [sum_quarters]

/-- The output over real sums and projections. -/
theorem outVal_real (A : Vec Ideal S32x16x1024 .f32) (S : Vec Ideal S32x1x16 .f32) (wv : Vec Ideal S1024x1024 .f32) (bv : Vec Ideal S1x1024 .f32)
    (wo : Vec Ideal S1024x1024 .f32) (bo : Vec Ideal S1x1024 .f32) (a : Args) (m : Fin 32 → Fin 16 → ℝ)
    (hA : ∀ b h d, A (ix3 b h d) = (a.eA m b h d : EReal)) (hS : ∀ b h, S (ix3 b 0 h) = (a.eS m b h : EReal))
    (hwv : ∀ i c, wv (ix2 i c) = (a.wv i c : EReal)) (hbv : ∀ c, bv (ix2 0 c) = (a.bv c : EReal))
    (hwo : ∀ i c, wo (ix2 i c) = (a.wo i c : EReal)) (hbo : ∀ c, bo (ix2 0 c) = (a.bo c : EReal)) (b : Fin 32) (n : Fin 1024) :
    outVal (F := Ideal) A S wv bv wo bo (ix2 b n) = (a.outK m b n : EReal) := by
  have hmean (h : Fin 16) (d : Fin 1024) : headMean (F := Ideal) (k0_pay32 S) (headRows h A) h (ix2 b d)
      = ((a.eA m b h d * (1 / a.eS m b h) : ℝ) : EReal) := by
    rw [headMean_apply, pay32_apply, hS, ← EReal.coe_one, div_real _ (a.eS_pos m b h).ne', EReal.coe_mul, ← hA]
    rw [ix3_eq_valueIdx b h d]
    rfl
  have hupd (c : Fin 1024) : updVal (F := Ideal) A S wv bv (ix2 b c) = (a.upd m b c : EReal) := by
    show updCols (F := Ideal) A S wv bv ⟨c.val / 128, by omega⟩ (ValueIdx.ix2 b ⟨c.val % 128, by omega⟩) = _
    rw [← ix2_eq_valueIdx]
    unfold updCols
    rw [pairUpd_apply]
    have hc : (⟨128 * (c.val / 128) + c.val % 128, by omega⟩ : Fin 1024) = c := Fin.ext (by show 128 * (c.val / 128) + c.val % 128 = c.val; omega)
    simp only [cols_apply, hmean, hwv, hbv, pay33_apply, hc, coe_sum, ← EReal.coe_one, ← EReal.coe_sub, ← EReal.coe_mul, ← EReal.coe_add]
    refine congrArg (fun r : ℝ => (r : EReal)) ?_
    unfold Args.upd
    refine congrArg (fun r : ℝ => r + a.bv c) ?_
    by_cases h1 : c.val % 128 < 64
    · have hh : (⟨2 * (c.val / 128), by omega⟩ : Fin 16) = headOf c := Fin.ext (by show 2 * (c.val / 128) = c.val / 64; omega)
      simp only [if_pos h1, hh, mul_one, sub_self, mul_zero, add_zero]
    · have hh : (⟨2 * (c.val / 128) + 1, by omega⟩ : Fin 16) = headOf c := Fin.ext (by show 2 * (c.val / 128) + 1 = c.val / 64; omega)
      simp only [if_neg h1, hh, mul_one, sub_zero, mul_zero, zero_add]
  unfold outVal
  rw [pay3_apply]
  simp only [hupd, hwo, hbo, coe_sum_mul, ← EReal.coe_add]
  rfl

end Cert.Val

end
-- ==== Proof.Val.Blocks.lean ====
/- The kernel's blocks at a point, read off the arguments, and its result over real arguments. -/
module

public import proofs.«01_k».proof.Proof.Val.KernelVal
public import proofs.«01_k».proof.Proof.KI.Result
public import Idealize.ShloMosaic.Lib.Pipeline.FrameTail

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ) (c : Dev nD)

/-- The three bias arrays reach the kernel as one row. -/
theorem V_v0 : V m c main_v0 = shapeCast S1x1024 (m (c.tc.loc main_arg4)) shapeCasts_S1024_S1x1024 := by
  unfold V
  after_region_results
  rfl
/-- The call reads the value bias as one row. -/
theorem V_v1 : V m c main_v1 = shapeCast S1x1024 (m (c.tc.loc main_arg8)) shapeCasts_S1024_S1x1024 := by
  unfold V
  after_region_results
  rfl
/-- The call reads the output bias as one row. -/
theorem V_v2 : V m c main_v2 = shapeCast S1x1024 (m (c.tc.loc main_arg10)) shapeCasts_S1024_S1x1024 := by
  unfold V
  after_region_results
  rfl

/-- A vector as one row, at an index. -/
theorem row_apply (x : FVec Ideal S1024 .f32) (i : Fin 1024) : shapeCast S1x1024 x shapeCasts_S1024_S1x1024 (ix2 0 i) = x (ix1 i) := by
  pointwise

/-- A window whose block is a whole matrix. -/
theorem emb_mat {n k : ℕ} (e : Shape.Idx ⟨2, ![n, k]⟩ → Shape.Idx ⟨2, ![n, k]⟩) (y : Shape.Idx ⟨2, ![n, k]⟩)
    (h0 : (e y 0).val = 0 * n + 1 * (y 0).val) (h1 : (e y 1).val = 0 * k + 1 * (y 1).val) : e y = y := by
  funext a
  match a with
  | ⟨0, _⟩ => exact Fin.ext (by rw [show (⟨0, by omega⟩ : Fin 2) = 0 from rfl, h0]; omega)
  | ⟨1, _⟩ => exact Fin.ext (by rw [show (⟨1, by omega⟩ : Fin 2) = 1 from rfl, h1]; omega)

/-- Window 0 holds the whole of its argument at every step. -/
theorem blk0 (t : Fin cfg0.N) : iblk m c 0 t = m (c.tc.loc main_arg0) := by
  funext y
  exact (congrArg (V m c main_arg0) (emb_mat ((cfg0.win 0).blk t).view.emb y rfl rfl)).trans (congrFun (V_main_arg0 m c) y)
/-- Window 9 holds the whole of its argument at every step. -/
theorem blk9 (t : Fin cfg0.N) : iblk m c 9 t = m (c.tc.loc main_arg3) := by
  funext y
  exact (congrArg (V m c main_arg3) (emb_mat ((cfg0.win 9).blk t).view.emb y rfl rfl)).trans (congrFun (V_main_arg3 m c) y)
/-- Window 10 holds the whole of its argument at every step. -/
theorem blk10 (t : Fin cfg0.N) (i : Fin 1024) : iblk m c 10 t (ix2 0 i) = m (c.tc.loc main_arg4) (ix1 i) := by
  exact (congrArg (V m c main_v0) (emb_mat ((cfg0.win 10).blk t).view.emb (ix2 0 i) rfl rfl)).trans ((congrFun (V_v0 m c) _).trans (row_apply _ i))
/-- Window 11 holds the whole of its argument at every step. -/
theorem blk11 (t : Fin cfg0.N) : iblk m c 11 t = m (c.tc.loc main_arg5) := by
  funext y
  exact (congrArg (V m c main_arg5) (emb_mat ((cfg0.win 11).blk t).view.emb y rfl rfl)).trans (congrFun (V_main_arg5 m c) y)
/-- Window 12 holds the whole of its argument at every step. -/
theorem blk12 (t : Fin cfg0.N) : iblk m c 12 t = m (c.tc.loc main_arg7) := by
  funext y
  exact (congrArg (V m c main_arg7) (emb_mat ((cfg0.win 12).blk t).view.emb y rfl rfl)).trans (congrFun (V_main_arg7 m c) y)
/-- Window 13 holds the whole of its argument at every step. -/
theorem blk13 (t : Fin cfg0.N) (i : Fin 1024) : iblk m c 13 t (ix2 0 i) = m (c.tc.loc main_arg8) (ix1 i) := by
  exact (congrArg (V m c main_v1) (emb_mat ((cfg0.win 13).blk t).view.emb (ix2 0 i) rfl rfl)).trans ((congrFun (V_v1 m c) _).trans (row_apply _ i))
/-- Window 14 holds the whole of its argument at every step. -/
theorem blk14 (t : Fin cfg0.N) : iblk m c 14 t = m (c.tc.loc main_arg9) := by
  funext y
  exact (congrArg (V m c main_arg9) (emb_mat ((cfg0.win 14).blk t).view.emb y rfl rfl)).trans (congrFun (V_main_arg9 m c) y)
/-- Window 15 holds the whole of its argument at every step. -/
theorem blk15 (t : Fin cfg0.N) (i : Fin 1024) : iblk m c 15 t (ix2 0 i) = m (c.tc.loc main_arg10) (ix1 i) := by
  exact (congrArg (V m c main_v2) (emb_mat ((cfg0.win 15).blk t).view.emb (ix2 0 i) rfl rfl)).trans ((congrFun (V_v2 m c) _).trans (row_apply _ i))

/-- The grid coordinate of point `b`, as the word the index maps read. -/
theorem coord_word (b : Fin 32) : (BitVec.ofNat 32 (grid0.coords (tAt b) 0).val).toNat = b.val := by
  rw [coords_val, BitVec.toNat_ofNat]
  have : (tAt b).val = b.val := rfl
  omega

/-- A window whose block is a quarter of one batch's rows. -/
theorem emb_quarter (b : Fin 32) (j : Fin 4) (e : S1x512x1024.Idx → S32x2048x1024.Idx) (l : Fin 512) (d : Fin 1024)
    (h0 : (e (ix3 0 l d) 0).val = (BitVec.ofNat 32 (grid0.coords (tAt b) 0).val).toNat * 1 + 1 * 0)
    (h1 : (e (ix3 0 l d) 1).val = j.val * 512 + 1 * l.val) (h2 : (e (ix3 0 l d) 2).val = 0 * 1024 + 1 * d.val) :
    e (ix3 0 l d) = ix3 b (qrow j l) d := by
  rw [coord_word] at h0
  funext a
  match a with
  | ⟨0, _⟩ => exact Fin.ext (h0.trans (by show _ = b.val; omega))
  | ⟨1, _⟩ => exact Fin.ext (h1.trans (by show _ = 512 * j.val + l.val; omega))
  | ⟨2, _⟩ => exact Fin.ext (h2.trans (by show _ = d.val; omega))

/-- Window 1 of a step holds quarter 1 of the keys of that batch row. -/
theorem blk1 (b : Fin 32) (l : Fin 512) (d : Fin 1024) : iblk m c 1 (tAt b) (ix3 0 l d) = m (c.tc.loc main_arg1) (ix3 b (qrow 0 l) d) :=
  (congrArg (V m c main_arg1) (emb_quarter b 0 ((cfg0.win 1).blk (tAt b)).view.emb l d rfl rfl rfl)).trans (congrFun (V_main_arg1 m c) _)
/-- Window 2 of a step holds quarter 2 of the keys of that batch row. -/
theorem blk2 (b : Fin 32) (l : Fin 512) (d : Fin 1024) : iblk m c 2 (tAt b) (ix3 0 l d) = m (c.tc.loc main_arg1) (ix3 b (qrow 1 l) d) :=
  (congrArg (V m c main_arg1) (emb_quarter b 1 ((cfg0.win 2).blk (tAt b)).view.emb l d rfl rfl rfl)).trans (congrFun (V_main_arg1 m c) _)
/-- Window 3 of a step holds quarter 3 of the keys of that batch row. -/
theorem blk3 (b : Fin 32) (l : Fin 512) (d : Fin 1024) : iblk m c 3 (tAt b) (ix3 0 l d) = m (c.tc.loc main_arg1) (ix3 b (qrow 2 l) d) :=
  (congrArg (V m c main_arg1) (emb_quarter b 2 ((cfg0.win 3).blk (tAt b)).view.emb l d rfl rfl rfl)).trans (congrFun (V_main_arg1 m c) _)
/-- Window 4 of a step holds quarter 4 of the keys of that batch row. -/
theorem blk4 (b : Fin 32) (l : Fin 512) (d : Fin 1024) : iblk m c 4 (tAt b) (ix3 0 l d) = m (c.tc.loc main_arg1) (ix3 b (qrow 3 l) d) :=
  (congrArg (V m c main_arg1) (emb_quarter b 3 ((cfg0.win 4).blk (tAt b)).view.emb l d rfl rfl rfl)).trans (congrFun (V_main_arg1 m c) _)
/-- Window 5 of a step holds quarter 1 of the values of that batch row. -/
theorem blk5 (b : Fin 32) (l : Fin 512) (d : Fin 1024) : iblk m c 5 (tAt b) (ix3 0 l d) = m (c.tc.loc main_arg2) (ix3 b (qrow 0 l) d) :=
  (congrArg (V m c main_arg2) (emb_quarter b 0 ((cfg0.win 5).blk (tAt b)).view.emb l d rfl rfl rfl)).trans (congrFun (V_main_arg2 m c) _)
/-- Window 6 of a step holds quarter 2 of the values of that batch row. -/
theorem blk6 (b : Fin 32) (l : Fin 512) (d : Fin 1024) : iblk m c 6 (tAt b) (ix3 0 l d) = m (c.tc.loc main_arg2) (ix3 b (qrow 1 l) d) :=
  (congrArg (V m c main_arg2) (emb_quarter b 1 ((cfg0.win 6).blk (tAt b)).view.emb l d rfl rfl rfl)).trans (congrFun (V_main_arg2 m c) _)
/-- Window 7 of a step holds quarter 3 of the values of that batch row. -/
theorem blk7 (b : Fin 32) (l : Fin 512) (d : Fin 1024) : iblk m c 7 (tAt b) (ix3 0 l d) = m (c.tc.loc main_arg2) (ix3 b (qrow 2 l) d) :=
  (congrArg (V m c main_arg2) (emb_quarter b 2 ((cfg0.win 7).blk (tAt b)).view.emb l d rfl rfl rfl)).trans (congrFun (V_main_arg2 m c) _)
/-- Window 8 of a step holds quarter 4 of the values of that batch row. -/
theorem blk8 (b : Fin 32) (l : Fin 512) (d : Fin 1024) : iblk m c 8 (tAt b) (ix3 0 l d) = m (c.tc.loc main_arg2) (ix3 b (qrow 3 l) d) :=
  (congrArg (V m c main_arg2) (emb_quarter b 3 ((cfg0.win 8).blk (tAt b)).view.emb l d rfl rfl rfl)).trans (congrFun (V_main_arg2 m c) _)

/-- The argument arrays hold the reals of `a`. -/
structure Args.Of (a : Args) (x0 : FVec Ideal S32x1024 .f32) (x1 x2 : FVec Ideal S32x2048x1024 .f32) (x3 : FVec Ideal S1024x1024 .f32)
    (x4 : FVec Ideal S1024 .f32) (x5 : FVec Ideal S1024x1024 .f32) (x6 : FVec Ideal S1024 .f32) (x7 : FVec Ideal S1024x1024 .f32)
    (x8 : FVec Ideal S1024 .f32) (x9 : FVec Ideal S1024x1024 .f32) (x10 : FVec Ideal S1024 .f32) : Prop where
  q : ∀ b i, x0 (ix2 b i) = (a.q b i : EReal)
  k : ∀ b l i, x1 (ix3 b l i) = (a.k b l i : EReal)
  v : ∀ b l i, x2 (ix3 b l i) = (a.v b l i : EReal)
  wq : ∀ i j, x3 (ix2 i j) = (a.wq i j : EReal)
  bq : ∀ i, x4 (ix1 i) = (a.bq i : EReal)
  wk : ∀ i j, x5 (ix2 i j) = (a.wk i j : EReal)
  bk : ∀ i, x6 (ix1 i) = (a.bk i : EReal)
  wv : ∀ i j, x7 (ix2 i j) = (a.wv i j : EReal)
  bv : ∀ i, x8 (ix1 i) = (a.bv i : EReal)
  wo : ∀ i j, x9 (ix2 i j) = (a.wo i j : EReal)
  bo : ∀ i, x10 (ix1 i) = (a.bo i : EReal)

/-- The kernel's result over real arguments: for some real maximum of each batch's head, the pulled-back order's output. -/
theorem outG_real (a : Args)
    (ha : a.Of (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9))
      (m (c.tc.loc main_arg10))) :
    ∃ mx : Fin 32 → Fin 16 → ℝ, ∀ b n, outG m c (tAt 31) (ix2 b n) = (a.outK mx b n : EReal) := by
  have hU (b : Fin 32) (h : Fin 16) (d : Fin 1024) : batchRows b (UV m c) (ix3 0 h d) = (a.u b h d : EReal) :=
    (show batchRows b (UV m c) (ix3 0 h d) = UV m c (ix3 b h d) by rw [ix3_eq_valueIdx b h d]; rfl).trans
      (uVal_real a _ _ _ _ (fun b i => (congrFun (blk0 m c _) _).trans (ha.q b i)) (fun i j => (congrFun (blk9 m c _) _).trans (ha.wq i j))
        (fun i => (blk10 m c _ i).trans (ha.bq i)) (fun i j => (congrFun (blk11 m c _) _).trans (ha.wk i j)) b h d)
  choose mx hmx using fun b : Fin 32 => rows_real (batchRows b (UV m c)) (iblk m c 1 (tAt b)) (iblk m c 2 (tAt b)) (iblk m c 3 (tAt b))
    (iblk m c 4 (tAt b)) (iblk m c 5 (tAt b)) (iblk m c 6 (tAt b)) (iblk m c 7 (tAt b)) (iblk m c 8 (tAt b)) (a.u b) (a.k b) (a.v b) (hU b)
    (fun l d => (blk1 m c b l d).trans (ha.k _ _ _)) (fun l d => (blk2 m c b l d).trans (ha.k _ _ _))
    (fun l d => (blk3 m c b l d).trans (ha.k _ _ _)) (fun l d => (blk4 m c b l d).trans (ha.k _ _ _))
    (fun l d => (blk5 m c b l d).trans (ha.v _ _ _)) (fun l d => (blk6 m c b l d).trans (ha.v _ _ _))
    (fun l d => (blk7 m c b l d).trans (ha.v _ _ _)) (fun l d => (blk8 m c b l d).trans (ha.v _ _ _))
  refine ⟨mx, fun b n => outVal_real (AV m c) (SV m c) _ _ _ _ a mx (fun b h d => ?_) (fun b h => ?_)
    (fun i j => (congrFun (blk12 m c _) _).trans (ha.wv i j)) (fun i => (blk13 m c _ i).trans (ha.bv i))
    (fun i j => (congrFun (blk14 m c _) _).trans (ha.wo i j)) (fun i => (blk15 m c _ i).trans (ha.bo i)) b n⟩
  · refine Eq.trans ?_ (((hmx b h).2 d).trans rfl)
    rw [ix3_eq_valueIdx (0 : Fin 1) h d]
    rfl
  · refine Eq.trans ?_ (((hmx b h).1).trans rfl)
    rw [ix3_eq_valueIdx (0 : Fin 1) (0 : Fin 1) h]
    rfl

end Cert.Val

end
-- ==== Proof.Val.RefIdx.lean ====
/- The reference's selected query row: with one query there is one row to select, so the selection's indices are zero,
   the gather reads the one row and the scatter writes it back. -/
module

public import proofs.«01_k».proof.Proof.Val.Blocks
public import proofs.«01_k».proof.Proof.Gen.ReferenceIdeal.Run
public import Idealize.ShloMosaic.Lib.Routing.OpsSet

@[expose] public section

set_option maxRecDepth 16384

noncomputable section

namespace Cert.Val

open Cert.ReferenceIdeal Cert.ReferenceIdeal.Gen Cert.ReferenceIdeal.Value
open Idealize.ShloMosaic Idealize.ShloMosaic.TcCoe Idealize.ShloMosaic.Tactic

/-- The top one along an axis of one element has index zero. -/
theorem topK_one {α : Type} (gt : α → α → BitVec 1) (x : S32x16x1.Idx → α) (h : S32x16x1.Slices (fun _ => 0) S32x16x1) (j : S32x16x1.Idx) :
    (Host.topK S32x16x1 2 gt x h).2 j = 0#32 := by
  have key (i : S32x16x1.Idx) : iotaInDim S32x16x1 32 2 i = 0#32 := by
    have hi : (i 2).val < 1 := (i 2).isLt
    show BitVec.ofNat 32 (i 2).val = 0#32
    rw [show (i 2).val = 0 by omega]
  exact key _

variable (V0 : Valuation τ sig (Elt Ideal))

/-- The query row chosen by the top scores is row zero. -/
theorem indices_zero (j : S32x16x1.Idx) : res_main_indices (F := Ideal) V0 j = 0#32 := by
  unfold res_main_indices
  exact topK_one _ _ _ j

/-- The chosen rows as an index array are all zero. -/
theorem v31_zero (j : S32x16x1x1.Idx) : res_main_v31 (F := Ideal) V0 j = 0#32 := by
  unfold res_main_v31
  exact indices_zero V0 _

/-- The wrapped row numbers with which the chosen query row is taken are all zero. -/
theorem call0_zero (j : S32x16x1x1.Idx) : res_main_call0_v4 (F := Ideal) V0 j = 0#32 := by
  unfold res_main_call0_v4
  show Scalar.select (IntOp.cmpi .slt (res_main_v31 (F := Ideal) V0 j) 0#32) (IntOp.addi (res_main_v31 (F := Ideal) V0 j) 1#32) (res_main_v31 (F := Ideal) V0 j) = 0#32
  rw [v31_zero]
  decide

/-- The gather along the one-row axis reads its batch's and head's row. -/
theorem gather_apply {α : Type} (x : S32x16x1x64.Idx → α) (idx : IVec S32x16x1x1 32) (b : Fin 32) (h : Fin 16) (e : Fin 64) :
    Host.gather gather_S32x16x1x64_S32x16x1x1_S32x16x1x64_3_2_01_01_2_3_11164 x idx (ix4 b h 0 e) = x (ix4 b h 0 e) := by
  unfold Host.gather
  congr 1
  funext a
  match a with
  | ⟨0, _⟩ => exact Fin.ext ((Nat.add_zero _).trans (Nat.zero_add _))
  | ⟨1, _⟩ => exact Fin.ext ((Nat.add_zero _).trans (Nat.zero_add _))
  | ⟨2, _⟩ => exact Subsingleton.elim (α := Fin 1) _ _
  | ⟨3, _⟩ => exact Fin.ext (Nat.zero_add _)

/-- The component of its index an update reads. -/
theorem siIdx_eq (b : Fin 32) (h : Fin 16) (e : Fin 64) (c : Fin 3) :
    scatter_S32x16x1x64_S32x16x1x3_S32x16x1x64_3_012_012_3.siIdx (ix4 b h 0 e) c = ix4 b h 0 c := by
  funext a
  match a with
  | ⟨0, _⟩ => rfl
  | ⟨1, _⟩ => rfl
  | ⟨2, _⟩ => rfl
  | ⟨3, _⟩ => rfl

/-- An update lands where its own batch, head and column are, when the index words name its batch, its head and row zero. -/
theorem scatter_apply {α : Type} (x u : S32x16x1x64.Idx → α) (idx : IVec S32x16x1x3 32)
    (h0 : ∀ b h, (idx (ix4 b h 0 0)).toInt = (b.val : ℤ)) (h1 : ∀ b h, (idx (ix4 b h 0 1)).toInt = (h.val : ℤ)) (h2 : ∀ b h, (idx (ix4 b h 0 2)).toInt = 0)
    (b : Fin 32) (h : Fin 16) (e : Fin 64) :
    Host.scatter scatter_S32x16x1x64_S32x16x1x3_S32x16x1x64_3_012_012_3 (fun _ b => b) x idx u (ix4 b h 0 e) = u (ix4 b h 0 e) := by
  have lands (b' : Fin 32) (h' : Fin 16) (e' : Fin 64) (b : Fin 32) (h : Fin 16) (e : Fin 64) :
      scatter_S32x16x1x64_S32x16x1x3_S32x16x1x64_3_012_012_3.resultIdx? (ix4 b' h' 0 e') idx = some (ix4 b h 0 e)
        ↔ b' = b ∧ h' = h ∧ e' = e := by
    rw [Routing.resultIdx?_eq_some]
    have s0 : scatter_S32x16x1x64_S32x16x1x3_S32x16x1x64_3_012_012_3.start (ix4 b' h' 0 e') idx 0 = b'.val :=
      (congrArg (fun i => (idx i).toInt) (siIdx_eq b' h' e' 0)).trans (h0 b' h')
    have s1 : scatter_S32x16x1x64_S32x16x1x3_S32x16x1x64_3_012_012_3.start (ix4 b' h' 0 e') idx 1 = h'.val :=
      (congrArg (fun i => (idx i).toInt) (siIdx_eq b' h' e' 1)).trans (h1 b' h')
    have s2 : scatter_S32x16x1x64_S32x16x1x3_S32x16x1x64_3_012_012_3.start (ix4 b' h' 0 e') idx 2 = 0 :=
      (congrArg (fun i => (idx i).toInt) (siIdx_eq b' h' e' 2)).trans (h2 b' h')
    have s3 : scatter_S32x16x1x64_S32x16x1x3_S32x16x1x64_3_012_012_3.start (ix4 b' h' 0 e') idx 3 = 0 := rfl
    have w0 : scatter_S32x16x1x64_S32x16x1x3_S32x16x1x64_3_012_012_3.window (ix4 b' h' 0 e') 0 = 0 := rfl
    have w1 : scatter_S32x16x1x64_S32x16x1x3_S32x16x1x64_3_012_012_3.window (ix4 b' h' 0 e') 1 = 0 := rfl
    have w2 : scatter_S32x16x1x64_S32x16x1x3_S32x16x1x64_3_012_012_3.window (ix4 b' h' 0 e') 2 = 0 := rfl
    have w3 : scatter_S32x16x1x64_S32x16x1x3_S32x16x1x64_3_012_012_3.window (ix4 b' h' 0 e') 3 = e'.val := rfl
    constructor
    · intro hall
      have a0 := hall 0
      have a1 := hall 1
      have a3 := hall 3
      rw [s0, w0] at a0
      rw [s1, w1] at a1
      rw [s3, w3] at a3
      replace a0 : (b'.val : ℤ) + 0 = b.val := a0
      replace a1 : (h'.val : ℤ) + 0 = h.val := a1
      replace a3 : (0 : ℤ) + e'.val = e.val := a3
      exact ⟨Fin.ext (by omega), Fin.ext (by omega), Fin.ext (by omega)⟩
    · rintro ⟨rfl, rfl, rfl⟩ a
      match a with
      | ⟨0, _⟩ => exact (congrArg₂ (fun (p : ℤ) (q : ℕ) => p + (q : ℤ)) s0 w0).trans (by show (b'.val : ℤ) + 0 = b'.val; omega)
      | ⟨1, _⟩ => exact (congrArg₂ (fun (p : ℤ) (q : ℕ) => p + (q : ℤ)) s1 w1).trans (by show (h'.val : ℤ) + 0 = h'.val; omega)
      | ⟨2, _⟩ => exact (congrArg₂ (fun (p : ℤ) (q : ℕ) => p + (q : ℤ)) s2 w2).trans rfl
      | ⟨3, _⟩ => exact (congrArg₂ (fun (p : ℤ) (q : ℕ) => p + (q : ℤ)) s3 w3).trans (by show (0 : ℤ) + e'.val = e'.val; omega)
  refine Routing.scatter_set_hit _ _ _ _ _ _ (fun k hk => ?_) (ix4 b h 0 e) ((lands b h e b h e).mpr ⟨rfl, rfl, rfl⟩)
  have hke : k = ix4 (k 0) (k 1) 0 (k 3) := by
    funext a
    match a with
    | ⟨0, _⟩ => rfl
    | ⟨1, _⟩ => rfl
    | ⟨2, _⟩ => exact Subsingleton.elim (α := Fin 1) _ _
    | ⟨3, _⟩ => rfl
  rw [hke] at hk ⊢
  obtain ⟨e0, e1, e3⟩ := (lands _ _ _ _ _ _).mp hk
  rw [e0, e1, e3]
  rfl

end Cert.Val

end
-- ==== Proof.Val.RefRead.lean ====
/- The reference's named values at an index. -/
module

public import proofs.«01_k».proof.Proof.Val.RefIdx

@[expose] public section

set_option maxRecDepth 16384

noncomputable section

namespace Cert.Val

open Cert.ReferenceIdeal Cert.ReferenceIdeal.Gen Cert.ReferenceIdeal.Value
open Idealize.ShloMosaic Idealize.ShloMosaic.TcCoe Idealize.ShloMosaic.Tactic

variable (V0 : Valuation τ sig (Elt Ideal))

/-- The query projection, split in heads, at an index. -/
theorem v15_apply (b : Fin 32) (h : Fin 16) (e : Fin 64) (x0 : FVec Ideal S32x1024 .f32) (x3 : FVec Ideal S1024x1024 .f32) (x4 : FVec Ideal S1024 .f32)
    (h0 : V0 (Proc.devRef .tc main_arg0) = x0) (h3 : V0 (Proc.devRef .tc main_arg3) = x3) (h4 : V0 (Proc.devRef .tc main_arg4) = x4) :
    res_main_v15 (F := Ideal) V0 (ix4 b h 0 e) = ∑ i : Fin 1024, x0 (ix2 b i) * x3 (ix2 i (hcol h e)) + x4 (ix1 (hcol h e)) := by
  have hc : (⟨h.val * 64 + e.val, by omega⟩ : Fin 1024) = hcol h e := Fin.ext (by show h.val * 64 + e.val = 64 * h.val + e.val; omega)
  unfold res_main_v15
  rw [h0, h3, h4]
  pointwise
  rw [hc]

/-- The key projection, split in heads, at an index. -/
theorem v16_apply (b : Fin 32) (h : Fin 16) (l : Fin 2048) (e : Fin 64) (x1 : FVec Ideal S32x2048x1024 .f32) (x5 : FVec Ideal S1024x1024 .f32)
    (x6 : FVec Ideal S1024 .f32)
    (h1 : V0 (Proc.devRef .tc main_arg1) = x1) (h5 : V0 (Proc.devRef .tc main_arg5) = x5) (h6 : V0 (Proc.devRef .tc main_arg6) = x6) :
    res_main_v16 (F := Ideal) V0 (ix4 b h l e) = ∑ i : Fin 1024, x1 (ix3 b l i) * x5 (ix2 i (hcol h e)) + x6 (ix1 (hcol h e)) := by
  have hc : (⟨h.val * 64 + e.val, by omega⟩ : Fin 1024) = hcol h e := Fin.ext (by show h.val * 64 + e.val = 64 * h.val + e.val; omega)
  unfold res_main_v16
  rw [h1, h5, h6]
  pointwise
  rw [hc]

/-- The value projection, split in heads, at an index. -/
theorem v17_apply (b : Fin 32) (h : Fin 16) (l : Fin 2048) (e : Fin 64) (x2 : FVec Ideal S32x2048x1024 .f32) (x7 : FVec Ideal S1024x1024 .f32)
    (x8 : FVec Ideal S1024 .f32)
    (h2 : V0 (Proc.devRef .tc main_arg2) = x2) (h7 : V0 (Proc.devRef .tc main_arg7) = x7) (h8 : V0 (Proc.devRef .tc main_arg8) = x8) :
    res_main_v17 (F := Ideal) V0 (ix4 b h l e) = ∑ i : Fin 1024, x2 (ix3 b l i) * x7 (ix2 i (hcol h e)) + x8 (ix1 (hcol h e)) := by
  have hc : (⟨h.val * 64 + e.val, by omega⟩ : Fin 1024) = hcol h e := Fin.ext (by show h.val * 64 + e.val = 64 * h.val + e.val; omega)
  unfold res_main_v17
  rw [h2, h7, h8]
  pointwise
  rw [hc]

/-- A conjunction of ones is one. -/
theorem fold_ones {ι : Type} (s : Finset ι) : s.fold IntOp.andi 1#1 (fun _ => 1#1) = 1#1 := by
  classical
  induction s using Finset.induction_on with
  | empty => rfl
  | insert i s hi ih => rw [Finset.fold_insert hi, ih]; decide

/-- The scores at an index: the selected row is the query's own. -/
theorem v36_apply (b : Fin 32) (h : Fin 16) (l : Fin 2048) (q : FVec Ideal S32x16x1x64 .f32) (k : FVec Ideal S32x16x2048x64 .f32)
    (hq : res_main_v15 V0 = q) (hk : res_main_v16 V0 = k) :
    res_main_v36 (F := Ideal) V0 (ix4 b h 0 l) = (∑ e : Fin 64, q (ix4 b h 0 e) * k (ix4 b h l e)) * Ideal.ofBits .f32 0x3E000000#32 := by
  have hz : res_main_call0_v4 (F := Ideal) V0 = fun _ => 0#32 := funext (call0_zero V0)
  unfold res_main_v36
  rw [hz, hq, hk]
  pointwise
  simp only [gather_apply]
  rw [show IntOp.andi (IntOp.cmpi CmpIPredicate.sge 0#32 0#32) (IntOp.cmpi CmpIPredicate.sle 0#32 0#32) = 1#1 by decide, fold_ones]
  rfl

/-- The exponentials of scores less their maximum. -/
def expOf (x : FVec Ideal S32x16x1x2048 .f32) : FVec Ideal S32x16x1x2048 .f32 :=
  Host.exp (subf x (broadcastInDim S32x16x1x2048 ![0, 1, 2, 3] bcast_S32x16x1x1_S32x16x1x2048_0_1_2_3 (broadcastInDim S32x16x1x1 ![0, 1, 2] bcast_S32x16x1_S32x16x1x1_0_1_2 (maximumf (broadcastInDim S32x16x1 ![] bcast_S_S32x16x1 (constant S_ .f32 0xFF800000#32)) (Host.reduce FloatOps.maximumf x (constant S_ .f32 0xFF800000#32) reducesTo_S32x16x1x2048_S32x16x1_d3 h_S_)))))

/-- The reference's exponentials are those of its scores. -/
theorem v47_eq : res_main_v47 (F := Ideal) V0 = expOf (res_main_v36 V0) := rfl

/-- The exponentials at an index, for some real maximum. -/
theorem expOf_apply (b : Fin 32) (h : Fin 16) (x : FVec Ideal S32x16x1x2048 .f32) (hr : ∀ j, ∃ r : ℝ, x j = (r : EReal)) :
    ∃ m : ℝ, ∀ l, expOf x (ix4 b h 0 l) = Ideal.exp (x (ix4 b h 0 l) - (m : EReal)) := by
  obtain ⟨m, hm⟩ := fold_max_real Finset.univ ⟨(0 : Fin 2048), Finset.mem_univ _⟩ (fun l => x (ix4 b h 0 l)) (fun l _ => hr _)
  refine ⟨m, fun l => ?_⟩
  pointwise [expOf]
  rw [ofBits_bot, max_eq_right bot_le, hm]

/-- The rows the selection leaves at the mean of the values. -/
def refBase : FVec Ideal S32x16x1x64 .f32 := (broadcastInDim S32x16x1x64 ![0, 1, 3] bcast_S32x16x64_S32x16x1x64_0_1_3 (Host.divf (Host.reduceAdd (res_main_v17 V0) (constant S_ .f32 0x00000000#32) reducesTo_S32x16x2048x64_S32x16x64_d2 h_S_) (broadcastInDim S32x16x64 ![] bcast_S_S32x16x64 (constant S_ .f32 0x45000000#32))))

/-- The index words of the row written back: batch, head and selected row. -/
def refIdx : IVec S32x16x1x3 32 := ((concatenate S32x16x1x3 3 [⟨S32x16x1x1, ((broadcastInDim S32x16x1x1 ![0, 1, 2] bcast_S32x16x1_S32x16x1x1_0_1_2 (broadcastInDim S32x16x1 ![0, 1, 2] bcast_S32x1x1_S32x16x1_0_1_2 (select (cmpi .slt (res_main_v54 V0) (broadcastInDim S32x1x1 ![] bcast_S_S32x1x1 (constantI S_ 32 0#32))) (addi (res_main_v54 V0) (broadcastInDim S32x1x1 ![] bcast_S_S32x1x1 (constantI S_ 32 32#32))) (res_main_v54 V0)))) : (⟨S32x16x1x1, .i32⟩ : BufTy).Contents (Elt Ideal))⟩, ⟨S32x16x1x1, ((broadcastInDim S32x16x1x1 ![0, 1, 2] bcast_S32x16x1_S32x16x1x1_0_1_2 (broadcastInDim S32x16x1 ![0, 1, 2] bcast_S1x16x1_S32x16x1_0_1_2 (select (cmpi .slt (res_main_v56 V0) (broadcastInDim S1x16x1 ![] bcast_S_S1x16x1 (constantI S_ 32 0#32))) (addi (res_main_v56 V0) (broadcastInDim S1x16x1 ![] bcast_S_S1x16x1 (constantI S_ 32 16#32))) (res_main_v56 V0)))) : (⟨S32x16x1x1, .i32⟩ : BufTy).Contents (Elt Ideal))⟩, ⟨S32x16x1x1, ((broadcastInDim S32x16x1x1 ![0, 1, 2] bcast_S32x16x1_S32x16x1x1_0_1_2 (select (cmpi .slt (res_main_indices V0) (broadcastInDim S32x16x1 ![] bcast_S_S32x16x1 (constantI S_ 32 0#32))) (addi (res_main_indices V0) (broadcastInDim S32x16x1 ![] bcast_S_S32x16x1 (constantI S_ 32 1#32))) (res_main_indices V0))) : (⟨S32x16x1x1, .i32⟩ : BufTy).Contents (Elt Ideal))⟩] concatenates_S32x16x1x1_S32x16x1x1_S32x16x1x1_S32x16x1x3_d3 : (⟨S32x16x1x3, .i32⟩ : BufTy).Contents (Elt Ideal)))

/-- The row written back: the softmax of the scores over the values. -/
def refUpd : FVec Ideal S32x16x1x64 .f32 := (Host.dotGeneral (φ₁ := .f32) (φ₂ := .f32) dot_S32x16x1x2048_S32x16x2048x64_S32x16x1x64_3_2_2_3_01_01 none (Host.divf (res_main_v47 V0) (broadcastInDim S32x16x1x2048 ![0, 1, 2, 3] bcast_S32x16x1x1_S32x16x1x2048_0_1_2_3 (broadcastInDim S32x16x1x1 ![0, 1, 2] bcast_S32x16x1_S32x16x1x1_0_1_2 (Host.reduceAdd (res_main_v47 V0) (constant S_ .f32 0x00000000#32) reducesTo_S32x16x1x2048_S32x16x1_d3 h_S_)))) (res_main_v17 V0))

/-- The reference's result. -/
def refOut : FVec Ideal S32x1024 .f32 := addf (Host.dotGeneral (φ₁ := .f32) (φ₂ := .f32) dot_S32x1024_S1024x1024_S32x1024_1_0_0_1_n_n none (shapeCast _ (transpose S32x1x16x64 [0, 2, 1, 3] (Host.scatter scatter_S32x16x1x64_S32x16x1x3_S32x16x1x64_3_012_012_3 (fun _ b => b) (refBase V0) (refIdx V0) (refUpd V0)) transposes_S32x16x1x64_S32x1x16x64_0_2_1_3) shapeCasts_S32x1x16x64_S32x1024) (V0 (Proc.devRef .tc main_arg9))) (broadcastInDim S32x1024 ![0, 1] bcast_S1x1024_S32x1024_0_1 (broadcastInDim S1x1024 ![1] bcast_S1024_S1x1024_1 (V0 (Proc.devRef .tc main_arg10))))

/-- The index words of the row written back, at an index. -/
theorem refIdx_apply (b : Fin 32) (h : Fin 16) :
    refIdx V0 (ix4 b h 0 0) = BitVec.ofNat 32 b.val ∧ refIdx V0 (ix4 b h 0 1) = BitVec.ofNat 32 h.val ∧ refIdx V0 (ix4 b h 0 2) = 0#32 := by
  have hz : res_main_indices (F := Ideal) V0 = fun _ => 0#32 := funext (indices_zero V0)
  unfold refIdx res_main_v54 res_main_v56
  rw [hz]
  refine ⟨?_, ?_, ?_⟩
  · pointwise
    exact (by decide : ∀ b : Fin 32, Scalar.select (IntOp.cmpi CmpIPredicate.slt (BitVec.ofNat 32 b.val) 0#32) (IntOp.addi (BitVec.ofNat 32 b.val) 32#32)
      (BitVec.ofNat 32 b.val) = BitVec.ofNat 32 b.val) b
  · pointwise
    exact (by decide : ∀ h : Fin 16, Scalar.select (IntOp.cmpi CmpIPredicate.slt (BitVec.ofNat 32 h.val) 0#32) (IntOp.addi (BitVec.ofNat 32 h.val) 16#32)
      (BitVec.ofNat 32 h.val) = BitVec.ofNat 32 h.val) h
  · pointwise
    decide

/-- The row written back, at an index. -/
theorem refUpd_apply (b : Fin 32) (h : Fin 16) (e : Fin 64) (x : FVec Ideal S32x16x1x2048 .f32) (v : FVec Ideal S32x16x2048x64 .f32)
    (hx : res_main_v47 V0 = x) (hv : res_main_v17 V0 = v) :
    refUpd V0 (ix4 b h 0 e) = ∑ l : Fin 2048, Ideal.div (x (ix4 b h 0 l)) (∑ l : Fin 2048, x (ix4 b h 0 l)) * v (ix4 b h l e) := by
  unfold refUpd
  rw [hx, hv]
  pointwise

/-- The reference's result at an index: the row written back, projected. -/
theorem refOut_apply (b : Fin 32) (n : Fin 1024) (x9 : FVec Ideal S1024x1024 .f32) (x10 : FVec Ideal S1024 .f32)
    (h9 : V0 (Proc.devRef .tc main_arg9) = x9) (h10 : V0 (Proc.devRef .tc main_arg10) = x10) :
    refOut V0 (ix2 b n) = ∑ c : Fin 1024, refUpd V0 (ix4 b (headOf c) 0 ⟨c.val % 64, by omega⟩) * x9 (ix2 c n) + x10 (ix1 n) := by
  unfold refOut
  rw [h9, h10]
  pointwise
  have hi (b : Fin 32) (h : Fin 16) := refIdx_apply V0 b h
  have hn (n : ℕ) (hn : n < 32) : (BitVec.ofNat 32 n).toInt = (n : ℤ) := by interval_cases n <;> rfl
  refine congrArg (· + x10 (ix1 n)) (Finset.sum_congr rfl fun c _ => ?_)
  rw [scatter_apply _ _ _ (fun b h => by rw [(hi b h).1, hn _ b.isLt]) (fun b h => by rw [(hi b h).2.1, hn _ (by omega)])
    (fun b h => by rw [(hi b h).2.2]; rfl)]
  rfl

end Cert.Val

end
-- ==== Proof.Val.RefVal.lean ====
/- The reference's result over real arguments. -/
module

public import proofs.«01_k».proof.Proof.Val.RefRead

@[expose] public section

set_option maxRecDepth 16384

noncomputable section

namespace Cert.Val

open Cert.ReferenceIdeal Cert.ReferenceIdeal.Gen Cert.ReferenceIdeal.Value
open Idealize.ShloMosaic Idealize.ShloMosaic.TcCoe Idealize.ShloMosaic.Tactic

variable (V0 : Valuation τ sig (Elt Ideal))

/-- An index of the scores is a batch, a head and a key row. -/
theorem scoreIdx (j : S32x16x1x2048.Idx) : j = ix4 (j 0) (j 1) 0 (j 3) := by
  funext a
  match a with
  | ⟨0, _⟩ => rfl
  | ⟨1, _⟩ => rfl
  | ⟨2, _⟩ => exact Subsingleton.elim (α := Fin 1) _ _
  | ⟨3, _⟩ => rfl

/-- The reference's result over real arguments: for some real maximum of each batch's head, the reference order's output. -/
theorem refOut_real (a : Args)
    (ha : a.Of (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10))) :
    ∃ mx : Fin 32 → Fin 16 → ℝ, ∀ b n, refOut V0 (ix2 b n) = (a.out mx b n : EReal) := by
  have hq (b : Fin 32) (h : Fin 16) (e : Fin 64) : res_main_v15 (F := Ideal) V0 (ix4 b h 0 e) = (a.qr b (hcol h e) : EReal) := by
    rw [v15_apply V0 b h e _ _ _ rfl rfl rfl]
    simp only [ha.q, ha.wq, ha.bq, coe_sum_mul, ← EReal.coe_add]
    rfl
  have hk (b : Fin 32) (h : Fin 16) (l : Fin 2048) (e : Fin 64) : res_main_v16 (F := Ideal) V0 (ix4 b h l e) = (a.kr b l (hcol h e) : EReal) := by
    rw [v16_apply V0 b h l e _ _ _ rfl rfl rfl]
    simp only [ha.k, ha.wk, ha.bk, coe_sum_mul, ← EReal.coe_add]
    rfl
  have hv (b : Fin 32) (h : Fin 16) (l : Fin 2048) (e : Fin 64) : res_main_v17 (F := Ideal) V0 (ix4 b h l e) = (a.vr b l (hcol h e) : EReal) := by
    rw [v17_apply V0 b h l e _ _ _ rfl rfl rfl]
    simp only [ha.v, ha.wv, ha.bv, coe_sum_mul, ← EReal.coe_add]
    rfl
  have hs (b : Fin 32) (h : Fin 16) (l : Fin 2048) : res_main_v36 (F := Ideal) V0 (ix4 b h 0 l) = (a.sc b h l : EReal) := by
    rw [v36_apply V0 b h l _ _ rfl rfl]
    simp only [hq, hk, coe_sum_mul, ofBits_eighth, ← EReal.coe_mul]
    rfl
  choose mx hmx using fun (b : Fin 32) (h : Fin 16) => expOf_apply b h (res_main_v36 (F := Ideal) V0) (fun j => ⟨a.sc (j 0) (j 1) (j 3), by rw [scoreIdx j]; exact hs _ _ _⟩)
  have he (b : Fin 32) (h : Fin 16) (l : Fin 2048) : res_main_v47 (F := Ideal) V0 (ix4 b h 0 l) = (Real.exp (a.sc b h l - mx b h) : EReal) := by
    rw [v47_eq, hmx, hs, ← EReal.coe_sub, Ideal.exp_coe]
  have hu (b : Fin 32) (c : Fin 1024) : refUpd V0 (ix4 b (headOf c) 0 ⟨c.val % 64, by omega⟩) = (a.att mx b c : EReal) := by
    rw [refUpd_apply V0 b _ _ _ _ rfl rfl]
    have hne : ∑ l, Real.exp (a.sc b (headOf c) l - mx b (headOf c)) ≠ 0 :=
      (Finset.sum_pos (fun l _ => Real.exp_pos _) ⟨0, Finset.mem_univ _⟩).ne'
    have hc : hcol (headOf c) ⟨c.val % 64, by omega⟩ = c := Fin.ext (by show 64 * (c.val / 64) + c.val % 64 = c.val; omega)
    simp only [he, hv, coe_sum, div_real _ hne, coe_sum_mul, hc]
    rfl
  refine ⟨mx, fun b n => ?_⟩
  rw [refOut_apply V0 b n _ _ rfl rfl]
  simp only [hu, ha.wo, ha.bo, coe_sum_mul, ← EReal.coe_add]
  rfl

end Cert.Val

end
-- ==== Proof.Val.Algebraic.lean ====
/- The value claim: over finite arguments the kernel's result is the reference's. -/
module

public import proofs.«01_k».proof.Proof.Frames
public import proofs.«01_k».proof.Proof.Val.RefVal

@[expose] public section

set_option maxRecDepth 16384

noncomputable section

namespace Cert.Val

open Idealize.ShloMosaic Idealize.SL.Sem

/-- An array the precondition's comparison passes holds reals. -/
theorem real_of_finite {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (j : s.Idx) :
    ∃ r : ℝ, x j = (r : EReal) := by
  have h1 : BitVec.ofBool (decide (max (x j) (-x j) < Ideal.ofBits .f32 0x7F800000#32)) = 1#1 := congrFun h j
  rw [ofBits_top] at h1
  refine real_of_abs_lt (by_contra fun hn => ?_)
  rw [decide_eq_false hn] at h1
  exact absurd h1 (by decide)

/-- Arrays of reals are the argument arrays of some `Args`. -/
theorem exists_args (x0 : FVec Ideal Cert.KernelIdeal.S32x1024 .f32) (x1 x2 : FVec Ideal Cert.KernelIdeal.S32x2048x1024 .f32)
    (x3 : FVec Ideal Cert.KernelIdeal.S1024x1024 .f32) (x4 : FVec Ideal Cert.KernelIdeal.S1024 .f32)
    (x5 : FVec Ideal Cert.KernelIdeal.S1024x1024 .f32) (x6 : FVec Ideal Cert.KernelIdeal.S1024 .f32)
    (x7 : FVec Ideal Cert.KernelIdeal.S1024x1024 .f32) (x8 : FVec Ideal Cert.KernelIdeal.S1024 .f32)
    (x9 : FVec Ideal Cert.KernelIdeal.S1024x1024 .f32) (x10 : FVec Ideal Cert.KernelIdeal.S1024 .f32)
    (h0 : ∀ j, ∃ r : ℝ, x0 j = (r : EReal)) (h1 : ∀ j, ∃ r : ℝ, x1 j = (r : EReal)) (h2 : ∀ j, ∃ r : ℝ, x2 j = (r : EReal))
    (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, x7 j = (r : EReal)) (h8 : ∀ j, ∃ r : ℝ, x8 j = (r : EReal))
    (h9 : ∀ j, ∃ r : ℝ, x9 j = (r : EReal)) (h10 : ∀ j, ∃ r : ℝ, x10 j = (r : EReal)) :
    ∃ a : Args, a.Of x0 x1 x2 x3 x4 x5 x6 x7 x8 x9 x10 := by
  choose r0 e0 using h0
  choose r1 e1 using h1
  choose r2 e2 using h2
  choose r3 e3 using h3
  choose r4 e4 using h4
  choose r5 e5 using h5
  choose r6 e6 using h6
  choose r7 e7 using h7
  choose r8 e8 using h8
  choose r9 e9 using h9
  choose r10 e10 using h10
  exact ⟨⟨fun b i => r0 (ix2 b i), fun b l i => r1 (ix3 b l i), fun b l i => r2 (ix3 b l i), fun i j => r3 (ix2 i j), fun i => r4 (ix1 i),
      fun i j => r5 (ix2 i j), fun i => r6 (ix1 i), fun i j => r7 (ix2 i j), fun i => r8 (ix1 i), fun i j => r9 (ix2 i j), fun i => r10 (ix1 i)⟩,
    ⟨fun _ _ => e0 _, fun _ _ _ => e1 _, fun _ _ _ => e2 _, fun _ _ => e3 _, fun _ => e4 _, fun _ _ => e5 _, fun _ => e6 _, fun _ _ => e7 _,
      fun _ => e8 _, fun _ _ => e9 _, fun _ => e10 _⟩⟩

section

attribute [local instance] Cert.KernelIdeal.Gen.facts Cert.ReferenceIdeal.Gen.facts Cert.Pre_finite.Gen.facts

/-- Finite arguments are real arguments. -/
theorem args_of_finite (m : (ℓ : Loc Cert.KernelIdeal.nD Cert.KernelIdeal.τ Cert.KernelIdeal.sig) → Buf (Elt Ideal) ℓ)
    (hm : Cert.Pre_KernelIdeal_finite m) (c : Dev Cert.KernelIdeal.nD) :
    ∃ a : Args, a.Of (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5))
      (m (c.tc.loc Cert.KernelIdeal.main_arg6)) (m (c.tc.loc Cert.KernelIdeal.main_arg7)) (m (c.tc.loc Cert.KernelIdeal.main_arg8))
      (m (c.tc.loc Cert.KernelIdeal.main_arg9)) (m (c.tc.loc Cert.KernelIdeal.main_arg10)) := by
  obtain ⟨h0, h1, h2, h3, h4, h5, h6, h7, h8, h9, h10⟩ := hm c
  exact exists_args _ _ _ _ _ _ _ _ _ _ _ (real_of_finite _ _ h0) (real_of_finite _ _ h1) (real_of_finite _ _ h2) (real_of_finite _ _ h3)
    (real_of_finite _ _ h4) (real_of_finite _ _ h5) (real_of_finite _ _ h6) (real_of_finite _ _ h7) (real_of_finite _ _ h8) (real_of_finite _ _ h9)
    (real_of_finite _ _ h10)

/-- The kernel's result is the reference's, over finite arguments. -/
theorem algebraic : Cert.algebraic_KernelIdeal_ReferenceIdeal_pre_finite := by
  intro m g m' g' hm heq
  refine ⟨fun c => Cert.KernelIdeal.Hand.outG m c (Cert.KernelIdeal.Hand.tAt 31), ?_, ?_⟩
  · exact (θ_run Cert.KernelIdeal.defs _ _).mono (fun r h c => ⟨h.1 c, h.2.1 c⟩)
      (θ_run_and (Cert.KernelIdeal.Hand.run_value m g) (Cert.KernelIdeal.Hand.frame m g))
  · refine (θ_run Cert.ReferenceIdeal.defs _ _).mono (fun r h c => ⟨(h c).1.trans ?_, (h c).2⟩) (Cert.ReferenceIdeal.Value.run (F := Ideal) m' g')
    obtain ⟨a, ha⟩ := args_of_finite m hm c
    obtain ⟨mk, hk⟩ := outG_real m c a ha
    obtain ⟨e0, e1, e2, e3, e4, e5, e6, e7, e8, e9, e10⟩ := heq c
    rw [← e0, ← e1, ← e2, ← e3, ← e4, ← e5, ← e6, ← e7, ← e8, ← e9, ← e10] at ha
    obtain ⟨mr, hr⟩ := refOut_real (StableHlo.launchContents m' c) a ha
    show refOut (StableHlo.launchContents m' c) = Cert.KernelIdeal.Hand.outG m c (Cert.KernelIdeal.Hand.tAt 31)
    funext y
    have hy : y = ix2 (y 0) (y 1) := by
      funext i
      match i with
      | ⟨0, _⟩ => rfl
      | ⟨1, _⟩ => rfl
    rw [hy]
    exact (hr (y 0) (y 1)).trans ((congrArg _ (a.out_eq mr mk (y 0) (y 1))).trans (hk (y 0) (y 1)).symm)

end

end Cert.Val

end
-- ==== Proof.lean ====
module

public import proofs.«01_k».proof.Defs
public import proofs.«01_k».proof.Proof.Frames
public import proofs.«01_k».proof.Proof.Val.Algebraic

@[expose] public section

noncomputable section

namespace Cert.Proof

/-- Every claim stated. -/
theorem claim : Cert.Claim :=
  ⟨Cert.Kernel.Gen.facts, Cert.KernelIdeal.Gen.facts, Cert.ReferenceIdeal.Gen.facts, Cert.Pre_finite.Gen.facts,
    frame_Kernel, frame_KernelIdeal, frame_KernelIdeal_finite, frame_ReferenceIdeal, frame_ReferenceIdeal_finite, trivial, Cert.Val.algebraic⟩

end Cert.Proof

end
